-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_0) = v0 c
          ∧ r.2.mem ((c.tc : Thread Cert.ReferenceIdeal.nD Cert.ReferenceIdeal.τ).loc Cert.ReferenceIdeal.main_v4) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x4096x2560 : Shape := ⟨3, ![4, 4096, 2560]⟩
abbrev S4x4096 : Shape := ⟨2, ![4, 4096]⟩
abbrev S2560x5120 : Shape := ⟨2, ![2560, 5120]⟩
abbrev S5120 : Shape := ⟨1, ![5120]⟩
abbrev S16384x2560 : Shape := ⟨2, ![16384, 2560]⟩
abbrev S128x128 : Shape := ⟨2, ![128, 128]⟩
abbrev S1x5120 : Shape := ⟨2, ![1, 5120]⟩
abbrev S16384x5120 : Shape := ⟨2, ![16384, 5120]⟩
abbrev S512x2560 : Shape := ⟨2, ![512, 2560]⟩
abbrev S512x5120 : Shape := ⟨2, ![512, 5120]⟩
abbrev S1x128 : Shape := ⟨2, ![1, 128]⟩
abbrev S512x128 : Shape := ⟨2, ![512, 128]⟩
abbrev S2560x512 : Shape := ⟨2, ![2560, 512]⟩
abbrev S512x512 : Shape := ⟨2, ![512, 512]⟩
abbrev S512 : Shape := ⟨1, ![512]⟩
abbrev S512x1 : Shape := ⟨2, ![512, 1]⟩

abbrev nBuf : Space → Nat
  | .hbm => 9
  | .vmem => 9
  | .smem => 0
  | _ => 0

abbrev bufTy : (tb : Table) → Fin (tcTables nBuf tb) → BufTy
  | .hbm, ⟨0, _⟩ => ⟨S4x4096x2560, .fp8e4m3⟩
  | .hbm, ⟨1, _⟩ => ⟨S4x4096, .f32⟩
  | .hbm, ⟨2, _⟩ => ⟨S2560x5120, .fp8e4m3⟩
  | .hbm, ⟨3, _⟩ => ⟨S5120, .f32⟩
  | .hbm, ⟨4, _⟩ => ⟨S16384x2560, .fp8e4m3⟩
  | .hbm, ⟨5, _⟩ => ⟨S128x128, .f32⟩
  | .hbm, ⟨6, _⟩ => ⟨S1x5120, .f32⟩
  | .hbm, ⟨7, _⟩ => ⟨S16384x5120, .fp8e4m3⟩
  | .hbm, ⟨8, _⟩ => ⟨S128x128, .f32⟩
  | .local _ .vmem, ⟨0, _⟩ => ⟨S512x2560, .fp8e4m3⟩
  | .local _ .vmem, ⟨1, _⟩ => ⟨S512x2560, .fp8e4m3⟩
  | .local _ .vmem, ⟨2, _⟩ => ⟨S128x128, .f32⟩
  | .local _ .vmem, ⟨3, _⟩ => ⟨S2560x5120, .fp8e4m3⟩
  | .local _ .vmem, ⟨4, _⟩ => ⟨S1x5120, .f32⟩
  | .local _ .vmem, ⟨5, _⟩ => ⟨S512x5120, .fp8e4m3⟩
  | .local _ .vmem, ⟨6, _⟩ => ⟨S512x5120, .fp8e4m3⟩
  | .local _ .vmem, ⟨7, _⟩ => ⟨S128x128, .f32⟩
  | .local _ .vmem, ⟨8, _⟩ => ⟨S512x5120, .f32⟩
  | _, _ => ⟨S4x4096x2560, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7

abbrev nD : Nat := 1
abbrev τ : Topo := Topo.v7x

variable {F : FTy → Type} [FloatOps F]

abbrev grid0 : Pipeline.Grid := ⟨1, ![32], ![false]⟩

def k0_off1 (i : grid0.Coords) (c0_i32 : BitVec 32) : Fin 2 → Nat :=
  let arg0 : BitVec 32 := BitVec.ofNat 32 (i 0).val
  let c4_i32 : BitVec 32 := 4#32
  let v0 : BitVec 32 := Scalar.muli arg0 c4_i32
  let v1 : BitVec 32 := Scalar.addi v0 c0_i32
  let v2 : Index := Scalar.indexCast v1
  let c0 : Index := 0#32
  ![v2.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2560 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2560x5120 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x5120 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x5120 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S4x4096x2560 : Shape := ⟨3, ![4, 4096, 2560]⟩
abbrev S4x4096 : Shape := ⟨2, ![4, 4096]⟩
abbrev S2560x5120 : Shape := ⟨2, ![2560, 5120]⟩
abbrev S5120 : Shape := ⟨1, ![5120]⟩
abbrev S16384x2560 : Shape := ⟨2, ![16384, 2560]⟩
abbrev S16384x1 : Shape := ⟨2, ![16384, 1]⟩
abbrev S1x5120 : Shape := ⟨2, ![1, 5120]⟩
abbrev S16384x5120 : Shape := ⟨2, ![16384, 5120]⟩
abbrev S16384 : Shape := ⟨1, ![16384]⟩
abbrev S128x128 : Shape := ⟨2, ![128, 128]⟩

abbrev nBuf : Space → Nat
  | .hbm => 10
  | .vmem => 6
  | .smem => 0
  | _ => 0

abbrev bufTy : (tb : Table) → Fin (tcTables nBuf tb) → BufTy
  | .hbm, ⟨0, _⟩ => ⟨S4x4096x2560, .fp8e4m3⟩
  | .hbm, ⟨1, _⟩ => ⟨S4x4096, .f32⟩
  | .hbm, ⟨2, _⟩ => ⟨S2560x5120, .fp8e4m3⟩
  | .hbm, ⟨3, _⟩ => ⟨S5120, .f32⟩
  | .hbm, ⟨4, _⟩ => ⟨S16384x2560, .fp8e4m3⟩
  | .hbm, ⟨5, _⟩ => ⟨S16384x1, .f32⟩
  | .hbm, ⟨6, _⟩ => ⟨S1x5120, .f32⟩
  | .hbm, ⟨7, _⟩ => ⟨S16384x5120, .fp8e4m3⟩
  | .hbm, ⟨8, _⟩ => ⟨S16384x1, .f32⟩
  | .hbm, ⟨9, _⟩ => ⟨S128x128, .f32⟩
  | .local _ .vmem, ⟨0, _⟩ => ⟨S16384x2560, .fp8e4m3⟩
  | .local _ .vmem, ⟨1, _⟩ => ⟨S16384x1, .f32⟩
  | .local _ .vmem, ⟨2, _⟩ => ⟨S2560x5120, .fp8e4m3⟩
  | .local _ .vmem, ⟨3, _⟩ => ⟨S1x5120, .f32⟩
  | .local _ .vmem, ⟨4, _⟩ => ⟨S16384x5120, .fp8e4m3⟩
  | .local _ .vmem, ⟨5, _⟩ => ⟨S16384x1, .f32⟩
  | _, _ => ⟨S4x4096x2560, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S16384x2560 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16384x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2560x5120 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x5120 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16384x5120 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16384x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.BitsKernelRun.lean ====
module

public import proofs.«01_k».proof.Proof.Gen.Kernel.Frame
public import proofs.«01_k».proof.Proof.Gen.Kernel.Skeleton

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1608000 in
/-- One grid point of the kernel, run on whole staging buffers. The inputs come back as they were; the codes' buffer comes
    back with the stores `L₄` (which cover it, whatever it held) and the scales' buffer, which held `x5`, with the stores
    `L₅` over `x5`. The two lists of stores are the ones the run finds. -/
def kernelRun (c : Dev nD) (i : grid0.Coords) (arg1 : Memref sig .tc .vmem S512x2560 .fp8e4m3) (harg1 : arg1.IsWhole) (arg2 : Memref sig .tc .vmem S128x128 .f32) (harg2 : arg2.IsWhole) (arg3 : Memref sig .tc .vmem S2560x5120 .fp8e4m3) (harg3 : arg3.IsWhole) (arg4 : Memref sig .tc .vmem S1x5120 .f32) (harg4 : arg4.IsWhole) (arg5 : Memref sig .tc .vmem S512x5120 .fp8e4m3) (harg5 : arg5.IsWhole) (arg6 : Memref sig .tc .vmem S128x128 .f32) (harg6 : arg6.IsWhole) (arg7 : Memref sig .tc .vmem S512x5120 .f32) (harg7 : arg7.IsWhole)
    (x0 : Vec F S512x2560 .fp8e4m3) (x1 : Vec F S128x128 .f32) (x2 : Vec F S2560x5120 .fp8e4m3) (x3 : Vec F S1x5120 .f32) :
    Σ' (L4 : List (View.Piece (Elt F) S512x5120 .fp8e4m3)), { L5 : List (View.Piece (Elt F) S128x128 .f32) //
      ∀ (x5 : Vec F S128x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare x5 ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, owns (c : Thread nD τ) arg5 fullShare (arg5.view.read (Elt F) (arg5.view.writes (Elt F) f L4)))
                ∗ owns (c : Thread nD τ) arg6 fullShare (arg6.view.read (Elt F) (arg6.view.writes (Elt F) (harg6.unread x5) L5))
                ∗ (∃ d, owns (c : Thread nD τ) arg7 fullShare d)) -∗ K ⟨⟩))
          ⊢ wp frame (wpE (defs₀ (F := F)) Variants.none c none) E (cc0__body i arg1 harg1 arg2 harg2 arg3 harg3 arg4 harg4 arg5 harg5 arg6 harg6 arg7 harg7) K } := by
  refine ⟨?_, ?_, fun x5 E K => ?run⟩
  case run =>
    simp only [cc0__body_eq_skeleton]; unfold cc0__body_skel
    simp only [k0_part29_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%ds0, %fs0, -, HS0⟩, Hk⟩
    obtain rfl := harg1.eq_unread hf0; obtain rfl := harg2.eq_unread hf1; obtain rfl := harg3.eq_unread hf2; obtain rfl := harg4.eq_unread hf3
    obtain rfl := harg6.eq_unread hf5
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists f4; iexists _; isplitr; swap; · iexact H4
      ipureintro; rfl
    isplitl [H5]
    · iexists _; isplitr; swap; · iexact H5
      ipureintro; rfl
    iexists _, _; isplitr; swap; · iexact HS0
    ipureintro; rfl

end Cert.Kernel.Gen

end
-- ==== Proof.BitsRun.lean ====
module

public import proofs.«01_k».proof.Proof.BitsKernelRun
public import Idealize.ShloMosaic.Lib.WritesUnit
public import Idealize.ShloMosaic.Lib.Claim
public import Idealize.ShloMosaic.Lib.Pipeline.DatRel
public import Idealize.ShloMosaic.Lib.Pipeline.ArrRel

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Each window's current staging memref at point `t`, and its wholeness. -/
abbrev ms0_0 (t : Fin cfg0.N) : Memref sig .tc .vmem S512x2560 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2560x5120 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x5120 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x5120 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x128 .f32 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S512x5120 .f32 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-! ## What one grid point leaves -/

/-- The run of the body at point `t`, on the staging buffers of that point and the blocks of the inputs. -/
abbrev runAt (c : Dev nD) (t : Fin cfg0.N) :=
  kernelRun (F := F) c (grid0.coords t) (ms0_0 t) (hs0_0 t) (ms0_1 t) (hs0_1 t) (ms0_2 t) (hs0_2 t) (ms0_3 t) (hs0_3 t)
    (ms0_4 t) (hs0_4 t) (ms0_5 t) (hs0_5 t) scM0_0 (Memref.isWhole_whole _) (iblk m c 0 t) (iblk m c 1 t) (iblk m c 2 t) (iblk m c 3 t)

/-- The block of codes that the body stores at point `t`. -/
def codesAt (c : Dev nD) (t : Fin cfg0.N) : Vec F S512x5120 .fp8e4m3 := View.canon (runAt m c t).1

/-- The rows of scales that the body stores at point `t` (rows `4 t … 4 t + 3`; elsewhere nothing is said). -/
def scalesAt (c : Dev nD) (t : Fin cfg0.N) : Vec F S128x128 .f32 := View.canon (runAt m c t).2.1

/-- The stores of the codes cover the block. -/
theorem codes_cover (c : Dev nD) (t : Fin cfg0.N) (y : S512x5120.Idx) : ∃ p ∈ (runAt m c t).1, y ∈ p.1.set :=
  View.cover_of_tiledL _ ![512, 128] (by rfl) y

/-- The first grid coordinate of point `t` is `t`. -/
theorem coords0 : ∀ t : Fin cfg0.N, ((grid0.coords t) 0).val = t.val := by decide +kernel

/-- The stores of point `t` cover the rows `4 t … 4 t + 3`. -/
theorem scales_cover (c : Dev nD) (t : Fin cfg0.N) (y : S128x128.Idx) (h : (y 0).val / 4 = t.val) :
    ∃ p ∈ (runAt m c t).2.1, y ∈ p.1.set := by
  have h0 := coords0 t
  have key : ∀ (r : Fin 4), (y 0).val = 4 * t.val + r.val →
      y ∈ (Rect.unit (s := S128x128) (k0_off1 (grid0.coords t) (BitVec.ofNat 32 r.val)) S1x128.size (k0_off1_inb (grid0.coords t) r)).set := by
    intro r hr
    rw [Rect.mem_set_unit]
    have e := k0_off1_eq (grid0.coords t) r
    have h1 := (y 1).isLt
    intro a
    match a with
    | ⟨0, _⟩ => rw [e]; show 4 * _ + _ ≤ (y 0).val ∧ (y 0).val < 4 * _ + _ + 1; omega
    | ⟨1, _⟩ => rw [e]; show 0 ≤ (y 1).val ∧ (y 1).val < 0 + 128; exact ⟨Nat.zero_le _, by rw [Nat.zero_add]; exact h1⟩
  have hc : (y 0).val = 4 * t.val + 0 ∨ (y 0).val = 4 * t.val + 1 ∨ (y 0).val = 4 * t.val + 2 ∨ (y 0).val = 4 * t.val + 3 := by omega
  rcases hc with hc | hc | hc | hc
  · exact ⟨_, .tail _ (.tail _ (.tail _ (.head _))), key 0 hc⟩
  · exact ⟨_, .tail _ (.tail _ (.head _)), key 1 hc⟩
  · exact ⟨_, .tail _ (.head _), key 2 hc⟩
  · exact ⟨_, .head _, key 3 hc⟩

/-- After the stores of point `t`, a row of `4 t … 4 t + 3` reads the scales stored there. -/
theorem scales_row (c : Dev nD) (t : Fin cfg0.N) (f) (y : S128x128.Idx) (h : (y 0).val / 4 = t.val) :
    (ms0_5 t).view.read (Elt F) ((ms0_5 t).view.writes (Elt F) f (runAt m c t).2.1) y = scalesAt m c t y :=
  View.read_writes_apply_eq_canon _ _ _ _ (scales_cover m c t y h)

/-- After the stores of point `t`, a row outside `4 t … 4 t + 3` reads what was there before. -/
theorem scales_other (c : Dev nD) (t : Fin cfg0.N) (f) (y : S128x128.Idx) (h : (y 0).val / 4 ≠ t.val) :
    (ms0_5 t).view.read (Elt F) ((ms0_5 t).view.writes (Elt F) f (runAt m c t).2.1) y = (ms0_5 t).view.read (Elt F) f y := by
  have h0 := coords0 t
  have e := k0_off1_eq (grid0.coords t)
  unfold runAt kernelRun
  refine (View.read_writes_cons_rows_of_not_mem _ f _ _ _ y (e 3) rfl (by simp only [h0]; show _ ∨ _ + 1 ≤ _; omega)).trans ?_
  refine (View.read_writes_cons_rows_of_not_mem _ f _ _ _ y (e 2) rfl (by simp only [h0]; show _ ∨ _ + 1 ≤ _; omega)).trans ?_
  refine (View.read_writes_cons_rows_of_not_mem _ f _ _ _ y (e 1) rfl (by simp only [h0]; show _ ∨ _ + 1 ≤ _; omega)).trans ?_
  exact View.read_writes_cons_rows_of_not_mem _ f _ _ _ y (e 0) rfl (by simp only [h0]; show _ ∨ _ + 1 ≤ _; omega)

/-! ## The proof data: the codes exact, the scales held to a predicate -/

/-- The scales' window is the one of which only a predicate is kept: its buffer starts at anything and fills by rows. -/
def marks : Fin 6 → Bool := fun w => w.val == 5

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => codesAt m c t
    | ⟨5, h⟩ => Pipeline.Dat.unnamed (cfg := cfg0) ⟨5, h⟩ t
  Φ _ := Pipeline.ΦA spec0 c
  q _ := fullShare
  owed _ := 0

/-- After point `t` the scales' buffer holds, in the rows of every point up to `t`, what that point stored. -/
def scalesOk (c : Dev nD) (t : Fin cfg0.N) (X : Vec F S128x128 .f32) : Prop :=
  ∀ s : Fin cfg0.N, s.val ≤ t.val → ∀ y : S128x128.Idx, (y 0).val / 4 = s.val → X y = scalesAt m c s y

/-- The predicate of each window (only the scales' is read). -/
def Rl (c : Dev nD) (w : Fin cfg0.W) (t : Fin cfg0.N) : ((cfg0.win w).block.Idx → Elt F (cfg0.win w).elt) → Prop := match w with
  | ⟨0, _⟩ => fun _ => True
  | ⟨1, _⟩ => fun _ => True
  | ⟨2, _⟩ => fun _ => True
  | ⟨3, _⟩ => fun _ => True
  | ⟨4, _⟩ => fun _ => True
  | ⟨5, _⟩ => scalesOk m c t

/-- The proof data's arrays are the contents at the region's entry. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = codesAt m c t := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- The relational proof data. -/
abbrev rdat (c : Dev nD) := (dats m 0 c).toRRel marks (Rl m c)

/-- The scales' window is never fetched. -/
theorem fetch0_5 : ∀ t : Fin cfg0.N, (cfg0.win 5).fetch t = false := by decide +kernel

/-- What the body finds in the scales' buffer at point `t` holds the rows of every earlier point. -/
theorem finds_scales (c : Dev nD) (t : Fin cfg0.N) (Y) (h : (rdat m c).Finds 5 t Y) (s : Fin cfg0.N) (hs : s.val < t.val)
    (y : S128x128.Idx) (hy : (y 0).val / 4 = s.val) : (Y : Vec F S128x128 .f32) y = scalesAt m c s y := by
  have ht : t.val ≠ 0 := by omega
  have hN : t.val < 32 := lt_of_lt_of_eq t.isLt N_0
  rcases ((rdat m c).finds_of_pos (fetch0_5 t) ht Y).mp h with hf | hL
  · exact absurd ((flush0_5 _).mp hf) (by show ¬ (t.val - 1) % 32 = 31; omega)
  · exact (dats m 0 c).toRRel_leaves (fgt := marks) (Rl := Rl m c) rfl hL s (by show s.val ≤ t.val - 1; omega) y hy

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ Y, ⌜(rdat m c).Finds 5 t Y⌝ ∗ owns (c : Thread nD τ) (ms0_5 t) fullShare Y))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ (∃ X, ⌜Rl m c 5 t X⌝ ∗ owns (c : Thread nD τ) (ms0_5 t) fullShare X))

/-- The body at any point: the run applies; the codes' block is named, the scales' buffer gains the rows of this point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  rw [show (dats m 0 c).Φ t.castSucc = Pipeline.ΦA spec0 c from rfl, PhiA0_eq]
  iintro ⟨⟨HS0, Hg⟩, Ho, ⟨%d0, H0⟩, ⟨%d1, H1⟩, ⟨%d2, H2⟩, ⟨%d3, H3⟩, ⟨%d4, H4⟩, ⟨%Y, %hY, H5⟩⟩
  iapply ((runAt m c t).2.2 Y Set.univ _)
  isplitl [H0]; · iexact H0
  isplitl [H1]; · iexact H1
  isplitl [H2]; · iexact H2
  isplitl [H3]; · iexact H3
  isplitl [H4]; · iexists _; iexact H4
  isplitl [H5]; · iexact H5
  isplitl [HS0]; · iexact HS0
  iintro ⟨H0, H1, H2, H3, ⟨%f4, H4⟩, H5, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]
  · rw [View.read_writes_eq_canon _ _ _ (codes_cover m c t)]
    iexact H4
  iexists _; isplitr; swap; · iexact H5
  ipureintro
  intro s hs y hy
  by_cases hst : s.val = t.val
  · obtain rfl := Fin.ext hst
    exact scales_row m c s _ y hy
  · refine (scales_other m c t _ y (by omega)).trans ?_
    rw [Memref.IsWhole.read_unread]
    exact finds_scales m c t Y hY s (by omega) y hy

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) :
    Pipeline.BodyObligationRel (dats (F := F) m 0 c) (defs₀ (F := F)) Variants.none () Set.univ marks (Rl m c) := fun t => by
  rw [bigSep_W0, bigSep_W0, defs₀_row]
  exact triple_restated (sound_body m c t) rfl .rfl fun _ => .rfl

/-! ## The run and the frame -/

set_option backward.isDefEq.respectTransparency.types false in
/-- The launch: every fair run ends, with every array at what the relational proof data allow and every semaphore counter at zero. -/
theorem run_main_quiescent : θ_run defs (onTc (τ := τ) (main (F := F))) (s₀ m ρ)
    (fun r => (Pipeline.RDat.FramePost (cfgs 0) (rdat m) (V m)) r ∧ r.2.sem = fun _ => 0) :=
  Pipeline.RDat.θ_run_frame (Q' := _) cfgs (0 : Fin 1) launch0 defs₀ Variants.none (rdat m) m ρ main
    (hbody := fun c => (body_obligation m c).toRRel) (hshare := fun c => (dats m 0 c).share_full fun _ => rfl)
    (howed := fun _ _ => rfl) (V := V m) (hmain := hmain m Variants.none) (hA := A_eq m) (hΦ := fun _ _ => rfl)

/-- The run without the counters. -/
theorem run_main : θ_run defs (onTc (τ := τ) (main (F := F))) (s₀ m ρ) (Pipeline.RDat.FramePost (cfgs 0) (rdat m) (V m)) :=
  (θ_run defs _ _).mono (fun _ h => h.1) (run_main_quiescent m ρ)

/-- The argument arrays of a final state are as they were. -/
theorem args_of_post (r : PUnit × MemSt nD τ sig (Elt F)) (h : Pipeline.RDat.FramePost (cfgs 0) (rdat m) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      (Pipeline.RDat.FramePost.arr_in h c 2 rfl).trans ((A_eq m c 2).trans (V_main_arg2 m c)),
      ((h c).2 main_arg3 (Pipeline.mem_restRefs_of main_arg3 (by decide) (by decide))).trans (V_main_arg3 m c)⟩

/-- The frame claim of the program, for any float values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨args_of_post m r h.1, h.2⟩) (run_main_quiescent m ρ)

end Cert.Kernel.Gen

end
-- ==== Proof.KernelRun.lean ====
module

public import proofs.«01_k».proof.Proof.Gen.KernelIdeal.Frame
public import proofs.«01_k».proof.Proof.Gen.KernelIdeal.Skeleton

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1608000 in
/-- One grid point of the kernel, run on whole staging buffers. The inputs come back as they were; the codes' buffer comes
    back with the stores `L₄` (which cover it, whatever it held) and the scales' buffer, which held `x5`, with the stores
    `L₅` over `x5`. The two lists of stores are the ones the run finds. -/
def kernelRun (c : Dev nD) (i : grid0.Coords) (arg1 : Memref sig .tc .vmem S512x2560 .fp8e4m3) (harg1 : arg1.IsWhole) (arg2 : Memref sig .tc .vmem S128x128 .f32) (harg2 : arg2.IsWhole) (arg3 : Memref sig .tc .vmem S2560x5120 .fp8e4m3) (harg3 : arg3.IsWhole) (arg4 : Memref sig .tc .vmem S1x5120 .f32) (harg4 : arg4.IsWhole) (arg5 : Memref sig .tc .vmem S512x5120 .fp8e4m3) (harg5 : arg5.IsWhole) (arg6 : Memref sig .tc .vmem S128x128 .f32) (harg6 : arg6.IsWhole) (arg7 : Memref sig .tc .vmem S512x5120 .f32) (harg7 : arg7.IsWhole)
    (x0 : Vec F S512x2560 .fp8e4m3) (x1 : Vec F S128x128 .f32) (x2 : Vec F S2560x5120 .fp8e4m3) (x3 : Vec F S1x5120 .f32) :
    Σ' (L4 : List (View.Piece (Elt F) S512x5120 .fp8e4m3)), { L5 : List (View.Piece (Elt F) S128x128 .f32) //
      ∀ (x5 : Vec F S128x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare x5 ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, owns (c : Thread nD τ) arg5 fullShare (arg5.view.read (Elt F) (arg5.view.writes (Elt F) f L4)))
                ∗ owns (c : Thread nD τ) arg6 fullShare (arg6.view.read (Elt F) (arg6.view.writes (Elt F) (harg6.unread x5) L5))
                ∗ (∃ d, owns (c : Thread nD τ) arg7 fullShare d)) -∗ K ⟨⟩))
          ⊢ wp frame (wpE (defs₀ (F := F)) Variants.none c none) E (cc0__body i arg1 harg1 arg2 harg2 arg3 harg3 arg4 harg4 arg5 harg5 arg6 harg6 arg7 harg7) K } := by
  refine ⟨?_, ?_, fun x5 E K => ?run⟩
  case run =>
    simp only [cc0__body_eq_skeleton]; unfold cc0__body_skel
    simp only [k0_part29_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%ds0, %fs0, -, HS0⟩, Hk⟩
    obtain rfl := harg1.eq_unread hf0; obtain rfl := harg2.eq_unread hf1; obtain rfl := harg3.eq_unread hf2; obtain rfl := harg4.eq_unread hf3
    obtain rfl := harg6.eq_unread hf5
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists f4; iexists _; isplitr; swap; · iexact H4
      ipureintro; rfl
    isplitl [H5]
    · iexists _; isplitr; swap; · iexact H5
      ipureintro; rfl
    iexists _, _; isplitr; swap; · iexact HS0
    ipureintro; rfl

end Cert.KernelIdeal.Gen

end
-- ==== Proof.Tile.lean ====
module

public import proofs.«01_k».proof.Proof.KernelRun
public import Idealize.ShloMosaic.Lib.Pointwise
public import Idealize.ShloMosaic.Lib.Pipeline.ValueKit
public import Idealize.ShloMosaic.Lib.Pipeline.ReadBack
public import Idealize.ShloMosaic.PureOps.Ideal

@[expose] public section

set_option maxRecDepth 16384

noncomputable section

namespace Cert.KernelIdeal.Gen

open Idealize.ShloMosaic Idealize.ShloMosaic.TcCoe Idealize.ShloMosaic.Tactic
open Idealize.SL

/-- The activation of one block of 512 rows, row `r` and column `n`: the larger of zero and the product of the code rows and
    columns times the row's scale times the column's scale. Row `r` of grid point `i` has its scale at row `4 i + r / 128`, lane
    `r % 128` of the scales. -/
def hBlk (x0 : Vec Ideal S512x2560 .fp8e4m3) (x1 : Vec Ideal S128x128 .f32) (x2 : Vec Ideal S2560x5120 .fp8e4m3) (x3 : Vec Ideal S1x5120 .f32)
    (i : grid0.Coords) : Vec Ideal S512x5120 .f32 := fun y =>
  max ((∑ k : Fin 2560, (x0 (ix2 (y 0) k) * x2 (ix2 k (y 1)) : EReal))
    * (x1 (ix2 ⟨4 * (i 0).val + (y 0).val / 128, by
          have h1 : (y 0).val < 512 := (y 0).isLt
          have h2 : (i 0).val < 32 := (i 0).isLt
          omega⟩ ⟨(y 0).val % 128, by omega⟩) * x3 (ix2 0 (y 1)))) 0

/-- One tile of the activation, at row `r` and lane `l`: the tile at column offset `d`, cut at offset `o` from the product tile at column
    offset `w`. -/
theorem tile_at {o d w : ℕ} (hs : S512x512.Slices ![0, o] S512x128)
    (inb0 : ∀ a, (![0, 0] : Fin 2 → ℕ) a + S512x2560.size a ≤ S512x2560.size a)
    (inbW : ∀ a, (![0, w] : Fin 2 → ℕ) a + S2560x512.size a ≤ S2560x5120.size a)
    (inbS : ∀ a, (![0, d] : Fin 2 → ℕ) a + S1x128.size a ≤ S1x5120.size a)
    (h : d = w + o)
    (xs : FVec Ideal S512x128 .f32)
    (x0 : Vec Ideal S512x2560 .fp8e4m3) (x1 : Vec Ideal S128x128 .f32) (x2 : Vec Ideal S2560x5120 .fp8e4m3) (x3 : Vec Ideal S1x5120 .f32)
    (i : grid0.Coords)
    (hxs : ∀ (r : Fin 512) (l : Fin 128) (p : 4 * (i 0).val + r.val / 128 < 128) (q : r.val % 128 < 128),
      xs (ix2 r l) = x1 (ix2 ⟨4 * (i 0).val + r.val / 128, p⟩ ⟨r.val % 128, q⟩))
    (r : Fin 512) (l : Fin 128) :
    maximumf (mulf (extractStridedSlice S512x128 ![0, o]
        (matmul (φ₁ := .fp8e4m3) (φ₂ := .fp8e4m3) dot_S512x2560_S2560x512_S512x512_1_0_0_1_n_n none
          (shapeCast S512x2560 (View.ld x0 (Rect.unit ![0, 0] S512x2560.size inb0)) shapeCasts_S512x2560_S512x2560)
          (View.ld x2 (Rect.unit ![0, w] S2560x512.size inbW)) (constant S512x512 .f32 0x00000000#32)) hs)
      (mulf xs (broadcastTo S512x128 (shapeCast S1x128 (View.ld x3 (Rect.unit ![0, d] S1x128.size inbS)) shapeCasts_S1x128_S1x128)
        broadcasts_S1x128_S512x128)))
      (broadcast S512x128 (Scalar.ofBits (F := Ideal) .f32 0x00000000#32)) (ix2 r l)
    = hBlk x0 x1 x2 x3 i (ix2 r ⟨d + l.val, by
        have h1 : d + 128 ≤ 5120 := inbS 1
        have hl := l.isLt
        omega⟩) := by
  subst h
  have hi : (i 0).val < 32 := (i 0).isLt
  have hr := r.isLt
  unfold hBlk
  pointwise
  rw [hxs r l (by omega) (by omega)]
  simp only [Nat.add_assoc]

/-- The place of lane `l` of row `r` of the column block at offset `d`. -/
theorem emb_tile {d : ℕ} (inbD : ∀ a, (![0, d] : Fin 2 → ℕ) a + S512x128.size a ≤ S512x5120.size a) (r : Fin 512) (l : Fin 128) (hd : d + l.val < 5120) :
    (Rect.unit (s := S512x5120) ![0, d] S512x128.size inbD).emb (ix2 r l) = ix2 r ⟨d + l.val, hd⟩ := by
  funext a
  apply Fin.ext
  match a with
  | 0 => simp [Rect.unit, Rect.emb, ix2]
  | 1 => simp [Rect.unit, Rect.emb, ix2]

/-- One stored tile of the activation: the block of columns at offset `d`. -/
theorem tile_emb {o d w : ℕ} (hs : S512x512.Slices ![0, o] S512x128)
    (inb0 : ∀ a, (![0, 0] : Fin 2 → ℕ) a + S512x2560.size a ≤ S512x2560.size a)
    (inbW : ∀ a, (![0, w] : Fin 2 → ℕ) a + S2560x512.size a ≤ S2560x5120.size a)
    (inbS : ∀ a, (![0, d] : Fin 2 → ℕ) a + S1x128.size a ≤ S1x5120.size a)
    (inbD : ∀ a, (![0, d] : Fin 2 → ℕ) a + S512x128.size a ≤ S512x5120.size a)
    (h : d = w + o)
    (xs : FVec Ideal S512x128 .f32)
    (x0 : Vec Ideal S512x2560 .fp8e4m3) (x1 : Vec Ideal S128x128 .f32) (x2 : Vec Ideal S2560x5120 .fp8e4m3) (x3 : Vec Ideal S1x5120 .f32)
    (i : grid0.Coords)
    (hxs : ∀ (r : Fin 512) (l : Fin 128) (p : 4 * (i 0).val + r.val / 128 < 128) (q : r.val % 128 < 128),
      xs (ix2 r l) = x1 (ix2 ⟨4 * (i 0).val + r.val / 128, p⟩ ⟨r.val % 128, q⟩))
    (x : S512x128.Idx) :
    maximumf (mulf (extractStridedSlice S512x128 ![0, o]
        (matmul (φ₁ := .fp8e4m3) (φ₂ := .fp8e4m3) dot_S512x2560_S2560x512_S512x512_1_0_0_1_n_n none
          (View.ld x0 (Rect.unit ![0, 0] S512x2560.size inb0))
          (View.ld x2 (Rect.unit ![0, w] S2560x512.size inbW)) (constant S512x512 .f32 0x00000000#32)) hs)
      (mulf xs (broadcastTo S512x128 (View.ld x3 (Rect.unit ![0, d] S1x128.size inbS) : Vec Ideal S1x128 .f32)
        broadcasts_S1x128_S512x128)))
      (broadcast S512x128 (Scalar.ofBits (F := Ideal) .f32 0x00000000#32)) x
    = hBlk x0 x1 x2 x3 i ((Rect.unit (s := S512x5120) ![0, d] S512x128.size inbD).emb x) := by
  obtain ⟨r, l, rfl⟩ : ∃ (r : Fin 512) (l : Fin 128), x = ix2 r l := ⟨x 0, x 1, eq_ix2 x⟩
  have hd : d + l.val < 5120 := by
    have h1 : d + 128 ≤ 5120 := inbS 1
    have hl := l.isLt
    omega
  rw [emb_tile inbD r l hd]
  subst h
  have hi : (i 0).val < 32 := (i 0).isLt
  have hr := r.isLt
  unfold hBlk
  pointwise
  rw [hxs r l (by omega) (by omega)]
  simp only [Nat.add_assoc]

/-- The activation is at least zero. -/
theorem hBlk_nonneg (x0 : Vec Ideal S512x2560 .fp8e4m3) (x1 : Vec Ideal S128x128 .f32) (x2 : Vec Ideal S2560x5120 .fp8e4m3) (x3 : Vec Ideal S1x5120 .f32)
    (i : grid0.Coords) (y : S512x5120.Idx) : (0 : EReal) ≤ hBlk x0 x1 x2 x3 i y := le_max_right _ _

end Cert.KernelIdeal.Gen

end
-- ==== Proof.RowScales.lean ====
module

public import proofs.«01_k».proof.Proof.Tile

@[expose] public section

set_option maxRecDepth 16384

noncomputable section

namespace Cert.KernelIdeal.Gen

open Idealize.ShloMosaic Idealize.ShloMosaic.TcCoe Idealize.ShloMosaic.Tactic
open Idealize.SL

/-- The column of row scales that a grid point builds: row `r` of the block has the scale at row `4 i + r / 128`, lane `r % 128`, in
    every lane. -/
theorem row_scales (c : Dev nD) (i : grid0.Coords) (arg2 : Memref sig .tc .vmem S128x128 .f32) (harg2 : arg2.IsWhole)
    (x1 : Vec Ideal S128x128 .f32) (r : Fin 512) (l : Fin 128) (p : 4 * (i 0).val + r.val / 128 < 128) (q : r.val % 128 < 128) :
    kernelRun.sl.r c i arg2 harg2 x1 (ix2 r l) = x1 (ix2 ⟨4 * (i 0).val + r.val / 128, p⟩ ⟨r.val % 128, q⟩) := by
  have hi : (i 0).val < 32 := (i 0).isLt
  have hr := r.isLt
  unfold kernelRun.sl.r
  simp only [View.readAt_eq_ld, Memref.IsWhole.read_unread]
  pointwise [k0_pay3]
  have e : ∀ k : Fin 4, k0_off1 i (BitVec.ofNat 32 k.val) 0 = 4 * (i 0).val + k.val ∧ k0_off1 i (BitVec.ofNat 32 k.val) 1 = 0 := fun k => by
    rw [k0_off1_eq i k]; exact ⟨rfl, rfl⟩
  have e0 := e 0
  have e1 := e 1
  have e2 := e 2
  have e3 := e 3
  simp only [Fin.val_zero, Fin.val_one, Fin.val_two, show ((3 : Fin 4) : ℕ) = 3 from rfl] at e0 e1 e2 e3
  split_ifs <;> refine congrArg x1 (congrArg₂ ix2 (Fin.ext ?_) (Fin.ext ?_)) <;> dsimp only <;> omega

end Cert.KernelIdeal.Gen

end
-- ==== Proof.RowMax.lean ====
module

public import proofs.«01_k».proof.Proof.RowScales

@[expose] public section

set_option maxRecDepth 16384

noncomputable section

namespace Cert.KernelIdeal.Gen

open Idealize.ShloMosaic Idealize.ShloMosaic.TcCoe Idealize.ShloMosaic.Tactic
open Idealize.SL

/-- The running maximum over 40 column blocks, from zero, then over the lanes, is the maximum over all the columns of a row that is
    at least zero. -/
theorem lanes_max (f : Fin 5120 → EReal) (hf : ∀ n, 0 ≤ f n) :
    Finset.univ.fold max ⊥ (fun l : Fin 128 => max (max (max (max (max (max (max (max (max (max (max (max (max (max (max (max (max (max (max (max (max (max (max (max (max (max (max (max (max (max (max (max (max (max (max (max (max (max (max (max (0) (f ⟨0 + l.val, by omega⟩)) (f ⟨128 + l.val, by omega⟩)) (f ⟨256 + l.val, by omega⟩)) (f ⟨384 + l.val, by omega⟩)) (f ⟨512 + l.val, by omega⟩)) (f ⟨640 + l.val, by omega⟩)) (f ⟨768 + l.val, by omega⟩)) (f ⟨896 + l.val, by omega⟩)) (f ⟨1024 + l.val, by omega⟩)) (f ⟨1152 + l.val, by omega⟩)) (f ⟨1280 + l.val, by omega⟩)) (f ⟨1408 + l.val, by omega⟩)) (f ⟨1536 + l.val, by omega⟩)) (f ⟨1664 + l.val, by omega⟩)) (f ⟨1792 + l.val, by omega⟩)) (f ⟨1920 + l.val, by omega⟩)) (f ⟨2048 + l.val, by omega⟩)) (f ⟨2176 + l.val, by omega⟩)) (f ⟨2304 + l.val, by omega⟩)) (f ⟨2432 + l.val, by omega⟩)) (f ⟨2560 + l.val, by omega⟩)) (f ⟨2688 + l.val, by omega⟩)) (f ⟨2816 + l.val, by omega⟩)) (f ⟨2944 + l.val, by omega⟩)) (f ⟨3072 + l.val, by omega⟩)) (f ⟨3200 + l.val, by omega⟩)) (f ⟨3328 + l.val, by omega⟩)) (f ⟨3456 + l.val, by omega⟩)) (f ⟨3584 + l.val, by omega⟩)) (f ⟨3712 + l.val, by omega⟩)) (f ⟨3840 + l.val, by omega⟩)) (f ⟨3968 + l.val, by omega⟩)) (f ⟨4096 + l.val, by omega⟩)) (f ⟨4224 + l.val, by omega⟩)) (f ⟨4352 + l.val, by omega⟩)) (f ⟨4480 + l.val, by omega⟩)) (f ⟨4608 + l.val, by omega⟩)) (f ⟨4736 + l.val, by omega⟩)) (f ⟨4864 + l.val, by omega⟩)) (f ⟨4992 + l.val, by omega⟩))
      = Finset.univ.sup f := by
  apply le_antisymm
  · rw [Finset.fold_max_le]
    refine ⟨bot_le, fun l _ => ?_⟩
    have h0 : 0 ≤ Finset.univ.sup f := (hf 0).trans (Finset.le_sup (Finset.mem_univ _))
    have h1 : ∀ n, f n ≤ Finset.univ.sup f := fun n => Finset.le_sup (Finset.mem_univ _)
    simp only [max_le_iff, h0, h1, and_self]
  · refine Finset.sup_le fun n _ => ?_
    obtain ⟨g, l, hg, hl, rfl⟩ : ∃ (g l : ℕ) (hg : g < 40) (hl : l < 128), n = ⟨128 * g + l, by omega⟩ :=
      ⟨n.val / 128, n.val % 128, by omega, by omega, Fin.ext (by dsimp only; omega)⟩
    rw [Finset.le_fold_max]
    refine Or.inr ⟨⟨l, hl⟩, Finset.mem_univ _, ?_⟩
    simp only [le_max_iff]
    interval_cases g <;> simp only [Nat.reduceMul, le_refl, true_or, or_true]

/-- The larger of two arrays, at an index. -/
theorem max_apply (a b : FVec Ideal S512x128 .f32) (x : S512x128.Idx) : maximumf a b x = (max (a x : EReal) (b x) : EReal) := rfl

/-- A row's maximum over the lanes, read at an index. -/
theorem max_lanes_apply (V : FVec Ideal S512x128 .f32) (h1) (h2) (h3) (j : S512.Idx) :
    multiReduction .maximumf [1] S512 V 0xFF800000#32 h1 h2 h3 j = Finset.univ.fold max ⊥ (fun l : Fin 128 => V (ix2 (j 0) l)) := by
  have e : Ideal.ofBits .f32 0xFF800000#32 = ⊥ := by simp [Ideal.ofBits, Ideal.ieee]
  pointwise
  rw [e]

/-- The running maximum that the reduction reads, at row `r` and lane `l`. -/
theorem running_max (c : Dev nD) (i : grid0.Coords) (arg1 : Memref sig .tc .vmem S512x2560 .fp8e4m3) (harg1 : arg1.IsWhole)
    (arg2 : Memref sig .tc .vmem S128x128 .f32) (harg2 : arg2.IsWhole) (arg3 : Memref sig .tc .vmem S2560x5120 .fp8e4m3) (harg3 : arg3.IsWhole)
    (arg4 : Memref sig .tc .vmem S1x5120 .f32) (harg4 : arg4.IsWhole)
    (x0 : Vec Ideal S512x2560 .fp8e4m3) (x1 : Vec Ideal S128x128 .f32) (x2 : Vec Ideal S2560x5120 .fp8e4m3) (x3 : Vec Ideal S1x5120 .f32) :
    multiReduction .maximumf [1] S512 (maximumf (kernelRun.sl.r_38 c i arg1 harg1 arg2 harg2 arg3 harg3 arg4 harg4 x0 x1 x2 x3)
     (k0_pay120 (kernelRun.sl.r c i arg2 harg2 x1) (kernelRun.sl.r_39 c arg1 harg1 arg3 harg3 x0 x2) (kernelRun.sl.r_40 c arg4 harg4 x3))) 0xFF800000#32 reduces_S512x128_S512 (.inl rfl) rfl
    = fun j => Finset.univ.sup fun n : Fin 5120 => hBlk x0 x1 x2 x3 i (ix2 (j 0) n) := by
  have hxs := row_scales c i arg2 harg2 x1
  simp only [kernelRun.sl.r, View.readAt_eq_ld, Memref.IsWhole.read_unread] at hxs
  simp only [kernelRun.sl.r, kernelRun.sl.r_1, kernelRun.sl.r_2, kernelRun.sl.r_3, kernelRun.sl.r_4, kernelRun.sl.r_5, kernelRun.sl.r_6, kernelRun.sl.r_7, kernelRun.sl.r_8, kernelRun.sl.r_9, kernelRun.sl.r_10, kernelRun.sl.r_11, kernelRun.sl.r_12, kernelRun.sl.r_13, kernelRun.sl.r_14, kernelRun.sl.r_15, kernelRun.sl.r_16, kernelRun.sl.r_17, kernelRun.sl.r_18, kernelRun.sl.r_19, kernelRun.sl.r_20, kernelRun.sl.r_21, kernelRun.sl.r_22, kernelRun.sl.r_23, kernelRun.sl.r_24, kernelRun.sl.r_25, kernelRun.sl.r_26, kernelRun.sl.r_27, kernelRun.sl.r_28, kernelRun.sl.r_29, kernelRun.sl.r_30, kernelRun.sl.r_31, kernelRun.sl.r_32, kernelRun.sl.r_33, kernelRun.sl.r_34, kernelRun.sl.r_35, kernelRun.sl.r_36, kernelRun.sl.r_37, kernelRun.sl.r_38, kernelRun.sl.r_39, kernelRun.sl.r_40, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, View.readAt_eq_ld, Memref.IsWhole.read_unread, kernelRun.sl.cst_10]
  generalize k0_pay3 _ _ _ _ = xs at hxs ⊢
  funext j
  obtain ⟨r, rfl⟩ : ∃ r : Fin 512, j = ix1 r := ⟨j 0, eq_ix1 j⟩
  change _ = Finset.univ.sup fun n : Fin 5120 => hBlk x0 x1 x2 x3 i (ix2 r n)
  refine (max_lanes_apply _ _ _ _ (ix1 r)).trans ?_
  rw [← lanes_max (fun n => hBlk x0 x1 x2 x3 i (ix2 r n)) fun n => hBlk_nonneg _ _ _ _ _ _]
  refine congrArg (fun g => Finset.univ.fold max ⊥ g) (funext fun l => ?_)
  change maximumf _ _ (ix2 r l) = _
  have T := fun {o d w} hs inb0 inbW inbS (h : d = w + o) => tile_at hs inb0 inbW inbS h xs x0 x1 x2 x3 i hxs r l
  have t0 := @T 0 0 0 slices_S512x512_o0_0_S512x128 inb_S512x2560_S512x2560_0_0 inb_S2560x5120_S2560x512_0_0 inb_S1x5120_S1x128_0_0 rfl
  have t1 := @T 128 128 0 slices_S512x512_o0_128_S512x128 inb_S512x2560_S512x2560_0_0 inb_S2560x5120_S2560x512_0_0 inb_S1x5120_S1x128_0_128 rfl
  have t2 := @T 256 256 0 slices_S512x512_o0_256_S512x128 inb_S512x2560_S512x2560_0_0 inb_S2560x5120_S2560x512_0_0 inb_S1x5120_S1x128_0_256 rfl
  have t3 := @T 384 384 0 slices_S512x512_o0_384_S512x128 inb_S512x2560_S512x2560_0_0 inb_S2560x5120_S2560x512_0_0 inb_S1x5120_S1x128_0_384 rfl
  have t4 := @T 0 512 512 slices_S512x512_o0_0_S512x128 inb_S512x2560_S512x2560_0_0 inb_S2560x5120_S2560x512_0_512 inb_S1x5120_S1x128_0_512 rfl
  have t5 := @T 128 640 512 slices_S512x512_o0_128_S512x128 inb_S512x2560_S512x2560_0_0 inb_S2560x5120_S2560x512_0_512 inb_S1x5120_S1x128_0_640 rfl
  have t6 := @T 256 768 512 slices_S512x512_o0_256_S512x128 inb_S512x2560_S512x2560_0_0 inb_S2560x5120_S2560x512_0_512 inb_S1x5120_S1x128_0_768 rfl
  have t7 := @T 384 896 512 slices_S512x512_o0_384_S512x128 inb_S512x2560_S512x2560_0_0 inb_S2560x5120_S2560x512_0_512 inb_S1x5120_S1x128_0_896 rfl
  have t8 := @T 0 1024 1024 slices_S512x512_o0_0_S512x128 inb_S512x2560_S512x2560_0_0 inb_S2560x5120_S2560x512_0_1024 inb_S1x5120_S1x128_0_1024 rfl
  have t9 := @T 128 1152 1024 slices_S512x512_o0_128_S512x128 inb_S512x2560_S512x2560_0_0 inb_S2560x5120_S2560x512_0_1024 inb_S1x5120_S1x128_0_1152 rfl
  have t10 := @T 256 1280 1024 slices_S512x512_o0_256_S512x128 inb_S512x2560_S512x2560_0_0 inb_S2560x5120_S2560x512_0_1024 inb_S1x5120_S1x128_0_1280 rfl
  have t11 := @T 384 1408 1024 slices_S512x512_o0_384_S512x128 inb_S512x2560_S512x2560_0_0 inb_S2560x5120_S2560x512_0_1024 inb_S1x5120_S1x128_0_1408 rfl
  have t12 := @T 0 1536 1536 slices_S512x512_o0_0_S512x128 inb_S512x2560_S512x2560_0_0 inb_S2560x5120_S2560x512_0_1536 inb_S1x5120_S1x128_0_1536 rfl
  have t13 := @T 128 1664 1536 slices_S512x512_o0_128_S512x128 inb_S512x2560_S512x2560_0_0 inb_S2560x5120_S2560x512_0_1536 inb_S1x5120_S1x128_0_1664 rfl
  have t14 := @T 256 1792 1536 slices_S512x512_o0_256_S512x128 inb_S512x2560_S512x2560_0_0 inb_S2560x5120_S2560x512_0_1536 inb_S1x5120_S1x128_0_1792 rfl
  have t15 := @T 384 1920 1536 slices_S512x512_o0_384_S512x128 inb_S512x2560_S512x2560_0_0 inb_S2560x5120_S2560x512_0_1536 inb_S1x5120_S1x128_0_1920 rfl
  have t16 := @T 0 2048 2048 slices_S512x512_o0_0_S512x128 inb_S512x2560_S512x2560_0_0 inb_S2560x5120_S2560x512_0_2048 inb_S1x5120_S1x128_0_2048 rfl
  have t17 := @T 128 2176 2048 slices_S512x512_o0_128_S512x128 inb_S512x2560_S512x2560_0_0 inb_S2560x5120_S2560x512_0_2048 inb_S1x5120_S1x128_0_2176 rfl
  have t18 := @T 256 2304 2048 slices_S512x512_o0_256_S512x128 inb_S512x2560_S512x2560_0_0 inb_S2560x5120_S2560x512_0_2048 inb_S1x5120_S1x128_0_2304 rfl
  have t19 := @T 384 2432 2048 slices_S512x512_o0_384_S512x128 inb_S512x2560_S512x2560_0_0 inb_S2560x5120_S2560x512_0_2048 inb_S1x5120_S1x128_0_2432 rfl
  have t20 := @T 0 2560 2560 slices_S512x512_o0_0_S512x128 inb_S512x2560_S512x2560_0_0 inb_S2560x5120_S2560x512_0_2560 inb_S1x5120_S1x128_0_2560 rfl
  have t21 := @T 128 2688 2560 slices_S512x512_o0_128_S512x128 inb_S512x2560_S512x2560_0_0 inb_S2560x5120_S2560x512_0_2560 inb_S1x5120_S1x128_0_2688 rfl
  have t22 := @T 256 2816 2560 slices_S512x512_o0_256_S512x128 inb_S512x2560_S512x2560_0_0 inb_S2560x5120_S2560x512_0_2560 inb_S1x5120_S1x128_0_2816 rfl
  have t23 := @T 384 2944 2560 slices_S512x512_o0_384_S512x128 inb_S512x2560_S512x2560_0_0 inb_S2560x5120_S2560x512_0_2560 inb_S1x5120_S1x128_0_2944 rfl
  have t24 := @T 0 3072 3072 slices_S512x512_o0_0_S512x128 inb_S512x2560_S512x2560_0_0 inb_S2560x5120_S2560x512_0_3072 inb_S1x5120_S1x128_0_3072 rfl
  have t25 := @T 128 3200 3072 slices_S512x512_o0_128_S512x128 inb_S512x2560_S512x2560_0_0 inb_S2560x5120_S2560x512_0_3072 inb_S1x5120_S1x128_0_3200 rfl
  have t26 := @T 256 3328 3072 slices_S512x512_o0_256_S512x128 inb_S512x2560_S512x2560_0_0 inb_S2560x5120_S2560x512_0_3072 inb_S1x5120_S1x128_0_3328 rfl
  have t27 := @T 384 3456 3072 slices_S512x512_o0_384_S512x128 inb_S512x2560_S512x2560_0_0 inb_S2560x5120_S2560x512_0_3072 inb_S1x5120_S1x128_0_3456 rfl
  have t28 := @T 0 3584 3584 slices_S512x512_o0_0_S512x128 inb_S512x2560_S512x2560_0_0 inb_S2560x5120_S2560x512_0_3584 inb_S1x5120_S1x128_0_3584 rfl
  have t29 := @T 128 3712 3584 slices_S512x512_o0_128_S512x128 inb_S512x2560_S512x2560_0_0 inb_S2560x5120_S2560x512_0_3584 inb_S1x5120_S1x128_0_3712 rfl
  have t30 := @T 256 3840 3584 slices_S512x512_o0_256_S512x128 inb_S512x2560_S512x2560_0_0 inb_S2560x5120_S2560x512_0_3584 inb_S1x5120_S1x128_0_3840 rfl
  have t31 := @T 384 3968 3584 slices_S512x512_o0_384_S512x128 inb_S512x2560_S512x2560_0_0 inb_S2560x5120_S2560x512_0_3584 inb_S1x5120_S1x128_0_3968 rfl
  have t32 := @T 0 4096 4096 slices_S512x512_o0_0_S512x128 inb_S512x2560_S512x2560_0_0 inb_S2560x5120_S2560x512_0_4096 inb_S1x5120_S1x128_0_4096 rfl
  have t33 := @T 128 4224 4096 slices_S512x512_o0_128_S512x128 inb_S512x2560_S512x2560_0_0 inb_S2560x5120_S2560x512_0_4096 inb_S1x5120_S1x128_0_4224 rfl
  have t34 := @T 256 4352 4096 slices_S512x512_o0_256_S512x128 inb_S512x2560_S512x2560_0_0 inb_S2560x5120_S2560x512_0_4096 inb_S1x5120_S1x128_0_4352 rfl
  have t35 := @T 384 4480 4096 slices_S512x512_o0_384_S512x128 inb_S512x2560_S512x2560_0_0 inb_S2560x5120_S2560x512_0_4096 inb_S1x5120_S1x128_0_4480 rfl
  have t36 := @T 0 4608 4608 slices_S512x512_o0_0_S512x128 inb_S512x2560_S512x2560_0_0 inb_S2560x5120_S2560x512_0_4608 inb_S1x5120_S1x128_0_4608 rfl
  have t37 := @T 128 4736 4608 slices_S512x512_o0_128_S512x128 inb_S512x2560_S512x2560_0_0 inb_S2560x5120_S2560x512_0_4608 inb_S1x5120_S1x128_0_4736 rfl
  have t38 := @T 256 4864 4608 slices_S512x512_o0_256_S512x128 inb_S512x2560_S512x2560_0_0 inb_S2560x5120_S2560x512_0_4608 inb_S1x5120_S1x128_0_4864 rfl
  have t39 := @T 384 4992 4608 slices_S512x512_o0_384_S512x128 inb_S512x2560_S512x2560_0_0 inb_S2560x5120_S2560x512_0_4608 inb_S1x5120_S1x128_0_4992 rfl
  clear T
  simp only [max_apply] at *
  rw [t39, t38, t37, t36, t35, t34, t33, t32, t31, t30, t29, t28, t27, t26, t25, t24, t23, t22, t21, t20, t19, t18, t17, t16, t15, t14, t13, t12, t11, t10, t9, t8, t7, t6, t5, t4, t3, t2, t1, t0]
  clear t0 t1 t2 t3 t4 t5 t6 t7 t8 t9 t10 t11 t12 t13 t14 t15 t16 t17 t18 t19 t20 t21 t22 t23 t24 t25 t26 t27 t28 t29 t30 t31 t32 t33 t34 t35 t36 t37 t38 t39
  have z : broadcast S512x128 (FloatOps.ofBits (F := Ideal) .f32 0#32) (ix2 r l) = (0 : EReal) := Ideal.ofBits_zero_f32
  rw [z]

end Cert.KernelIdeal.Gen

end
-- ==== Proof.Exponent.lean ====
module

public import Idealize.ShloMosaic.Lib.Pointwise
public import Idealize.ShloMosaic.PureOps.Ideal

@[expose] public section

set_option maxRecDepth 16384

noncomputable section

namespace Cert.Exponent

open Idealize.ShloMosaic Idealize.ShloMosaic.TcCoe Idealize.ShloMosaic.Tactic

/-- The number whose word has `b` in its exponent field: `b` shifted up by 23 bits. -/
def fieldPow (b : BitVec 32) : EReal := FloatOps.ofBits (F := Ideal) .f32 (IntOp.shli .vector b 23#32)

/-- A word whose sign and fraction bits are zero and whose exponent field is `n`, from 1 to 254, is `2 ^ (n - 127)`. -/
theorem ieee_pow (b : BitVec 32) (n : ℕ) (h1 : 1 ≤ n) (h2 : n ≤ 254) (w1 : b.extractLsb' 31 1 = 0#1) (w2 : (b.extractLsb' 23 8).toNat = n)
    (w3 : (b.extractLsb' 0 23).toNat = 0) : Ideal.ieee 8 23 b = (((2 : ℝ) ^ ((n : ℤ) - 127) : ℝ) : EReal) := by
  unfold Ideal.ieee
  have w1' : b.extractLsb' (8 + 23) 1 = 0#1 := w1
  have e1 : ¬ n = 2 ^ 8 - 1 := by omega
  have e2 : ¬ n = 0 := by omega
  simp only [w1', w2, w3, e1, e2, if_false]
  have e3 : (n : ℤ) - (2 ^ (8 - 1) - 1) - (23 : ℕ) = ((n : ℤ) - 127) - 23 := by norm_num
  refine congrArg Real.toEReal ?_
  rw [e3, zpow_sub₀ (by norm_num : (2 : ℝ) ≠ 0)]
  norm_num
  ring

/-- The bits of a small number shifted up by 23. -/
theorem shifted_bits : ∀ n : Fin 256, (IntOp.shli .vector (BitVec.ofNat 32 n.val) 23#32).extractLsb' 31 1 = 0#1
      ∧ ((IntOp.shli .vector (BitVec.ofNat 32 n.val) 23#32).extractLsb' 23 8).toNat = n.val
      ∧ ((IntOp.shli .vector (BitVec.ofNat 32 n.val) 23#32).extractLsb' 0 23).toNat = 0 := by decide +kernel

/-- The word with exponent field `n` is `2 ^ (n - 127)`, for `n` from 1 to 254. -/
theorem fieldPow_eq (n : ℕ) (h1 : 1 ≤ n) (h2 : n ≤ 254) : fieldPow (BitVec.ofNat 32 n) = (((2 : ℝ) ^ ((n : ℤ) - 127) : ℝ) : EReal) := by
  have hw := shifted_bits ⟨n, by omega⟩
  exact ieee_pow _ n h1 h2 hw.1 hw.2.1 hw.2.2

/-- The number that a step of the search makes of `k`, where the field is `n`. -/
def natStep (n b k : ℕ) : ℕ := if k + b ≤ n then k + b else k

theorem natStep_le (n b k : ℕ) : natStep n b k ≤ k + b := by
  unfold natStep; split_ifs <;> omega

/-- The steps from the top bit down make the number itself. -/
theorem natSteps : ∀ n : Fin 256, natStep n 1 (natStep n 2 (natStep n 4 (natStep n 8 (natStep n 16 (natStep n 32 (natStep n 64 (natStep n 128 0))))))) = n.val := by
  decide +kernel

/-- One step of the search for the exponent field of `t`: the bit is added where `t` is at least the power of two whose field is the
    sum, at most 253. -/
def searchStep (t : EReal) (bit f : BitVec 32) : BitVec 32 :=
  Scalar.select (FloatOps.cmpf (F := Ideal) (φ := .f32) .oge t (FloatOps.ofBits .f32 (IntOp.shli .vector
    (IntOp.addi (IntOp.subi (IntOp.minsi (IntOp.addi f bit) 253#32) 127#32) 127#32) 23#32))) (IntOp.addi f bit) f

/-- The exponent field of `t`, bit by bit from the top. -/
def searchField (t : EReal) : BitVec 32 :=
  searchStep t 1#32 (searchStep t 2#32 (searchStep t 4#32 (searchStep t 8#32 (searchStep t 16#32 (searchStep t 32#32
    (searchStep t 64#32 (searchStep t 128#32 0#32)))))))

/-- The exponent word that the kernel makes of `t`: zero where the field is 0 or 255, else the field less 126. -/
def expWord (t : EReal) : BitVec 32 :=
  Scalar.select (IntOp.ori (IntOp.cmpi .eq (searchField t) 0#32) (IntOp.cmpi .eq (searchField t) 255#32)) 0#32
    (IntOp.subi (searchField t) 126#32)

/-- The reciprocal scale that the kernel makes of `t`. -/
def invWord (t : EReal) : EReal := fieldPow (IntOp.addi (IntOp.subi 0#32 (expWord t)) 127#32)

/-- The scale that the kernel makes of `t`. -/
def scaleWord (t : EReal) : EReal := fieldPow (IntOp.addi (expWord t) 127#32)

/-- A step of the search, where `t` is at least the power with field `m`, cut at 253, exactly for `m` up to `n`. -/
theorem searchStep_eq (t : EReal) (n : ℕ) (hn : ∀ m : ℕ, 1 ≤ m → m ≤ 255 → (fieldPow (BitVec.ofNat 32 (min m 253)) ≤ t ↔ m ≤ n)) (b k : ℕ) (hb : 1 ≤ b)
    (hk : k + b ≤ 255) : searchStep t (BitVec.ofNat 32 b) (BitVec.ofNat 32 k) = BitVec.ofNat 32 (natStep n b k) := by
  unfold natStep
  have hw : ∀ m : Fin 256, IntOp.addi (IntOp.subi (IntOp.minsi (BitVec.ofNat 32 m.val) 253#32) 127#32) 127#32 = BitVec.ofNat 32 (min m.val 253) := by
    decide +kernel
  have hs : IntOp.addi (BitVec.ofNat 32 k) (BitVec.ofNat 32 b) = BitVec.ofNat 32 (k + b) := by
    simp only [IntOp.addi, BitVec.ofNat_add]
  unfold searchStep
  rw [hs, hw ⟨k + b, by omega⟩]
  have h := hn (k + b) (by omega) hk
  unfold fieldPow at h
  change Scalar.select (BitVec.ofBool (decide (_ ≥ _))) _ _ = _
  by_cases hc : k + b ≤ n
  · rw [if_pos hc, decide_eq_true (h.mpr hc)]; rfl
  · rw [if_neg hc, decide_eq_false (fun hh => hc (h.mp hh))]; rfl

/-- The search finds the field `n`. -/
theorem searchField_eq (t : EReal) (n : ℕ) (hle : n ≤ 255)
    (hn : ∀ m : ℕ, 1 ≤ m → m ≤ 255 → (fieldPow (BitVec.ofNat 32 (min m 253)) ≤ t ↔ m ≤ n)) : searchField t = BitVec.ofNat 32 n := by
  unfold searchField
  have a1 := natStep_le n 128 0
  have a2 := natStep_le n 64 (natStep n 128 0)
  have a3 := natStep_le n 32 (natStep n 64 (natStep n 128 0))
  have a4 := natStep_le n 16 (natStep n 32 (natStep n 64 (natStep n 128 0)))
  have a5 := natStep_le n 8 (natStep n 16 (natStep n 32 (natStep n 64 (natStep n 128 0))))
  have a6 := natStep_le n 4 (natStep n 8 (natStep n 16 (natStep n 32 (natStep n 64 (natStep n 128 0)))))
  have a7 := natStep_le n 2 (natStep n 4 (natStep n 8 (natStep n 16 (natStep n 32 (natStep n 64 (natStep n 128 0))))))
  rw [searchStep_eq t n hn 128 0 (by omega) (by omega), searchStep_eq t n hn 64 _ (by omega) (by omega),
    searchStep_eq t n hn 32 _ (by omega) (by omega), searchStep_eq t n hn 16 _ (by omega) (by omega),
    searchStep_eq t n hn 8 _ (by omega) (by omega), searchStep_eq t n hn 4 _ (by omega) (by omega),
    searchStep_eq t n hn 2 _ (by omega) (by omega), searchStep_eq t n hn 1 _ (by omega) (by omega)]
  exact congrArg _ (natSteps ⟨n, by omega⟩)

/-- The exponent that the reference makes of `t`: zero below `2 ^ -126` and from `2 ^ 126` on, else the floor of `log t / log 2`, plus one. -/
def refExp (t : EReal) : EReal :=
  Scalar.select (IntOp.ori (FloatOps.cmpf (F := Ideal) (φ := .f32) .olt t (FloatOps.ofBits .f32 0x00800000#32))
    (FloatOps.cmpf (F := Ideal) (φ := .f32) .oge t (FloatOps.ofBits .f32 0x7E800000#32))) (FloatOps.ofBits (F := Ideal) .f32 0x00000000#32)
    (Ideal.liftRound Int.floor (Ideal.div (Ideal.log t) (Ideal.log (FloatOps.ofBits (F := Ideal) .f32 0x40000000#32)))
      + FloatOps.ofBits (F := Ideal) .f32 0x3F800000#32)

theorem bits_min : FloatOps.ofBits (F := Ideal) .f32 0x00800000#32 = (((2 : ℝ) ^ (-126 : ℤ) : ℝ) : EReal) := fieldPow_eq 1 (by omega) (by omega)

theorem bits_max : FloatOps.ofBits (F := Ideal) .f32 0x7E800000#32 = (((2 : ℝ) ^ (126 : ℤ) : ℝ) : EReal) := fieldPow_eq 253 (by omega) (by omega)

theorem bits_two : FloatOps.ofBits (F := Ideal) .f32 0x40000000#32 = ((2 : ℝ) : EReal) := by
  have h := fieldPow_eq 128 (by omega) (by omega)
  norm_num at h
  exact h

theorem bits_one : FloatOps.ofBits (F := Ideal) .f32 0x3F800000#32 = ((1 : ℝ) : EReal) := by
  have h := fieldPow_eq 127 (by omega) (by omega)
  norm_num at h
  exact h

theorem bits_zero : FloatOps.ofBits (F := Ideal) .f32 0x00000000#32 = ((0 : ℝ) : EReal) := Ideal.ofBits_zero_f32

/-- Powers of two with integer exponents are ordered as the exponents. -/
theorem pow_le_iff (a b : ℤ) : (2 : ℝ) ^ a ≤ (2 : ℝ) ^ b ↔ a ≤ b := zpow_le_zpow_iff_right₀ (by norm_num)

/-- Below `2 ^ -126` the kernel's exponent word is zero. -/
theorem expWord_small (t : EReal) (h : t < (((2 : ℝ) ^ (-126 : ℤ) : ℝ) : EReal)) : expWord t = 0#32 := by
  have hf : searchField t = BitVec.ofNat 32 0 := searchField_eq t 0 (by omega) fun m h1 h2 => by
    rw [fieldPow_eq _ (by omega) (by omega)]
    refine ⟨fun hh => ?_, fun hh => by omega⟩
    have := lt_of_le_of_lt hh h
    rw [EReal.coe_lt_coe_iff] at this
    exact absurd ((pow_le_iff _ _).mpr (by omega)) (not_le.mpr this)
  unfold expWord
  rw [hf]; rfl

/-- From `2 ^ 126` on the kernel's exponent word is zero. -/
theorem expWord_large (t : EReal) (h : (((2 : ℝ) ^ (126 : ℤ) : ℝ) : EReal) ≤ t) : expWord t = 0#32 := by
  have hf : searchField t = BitVec.ofNat 32 255 := searchField_eq t 255 (by omega) fun m h1 h2 => by
    rw [fieldPow_eq _ (by omega) (by omega)]
    refine ⟨fun hh => h2, fun hh => le_trans ?_ h⟩
    rw [EReal.coe_le_coe_iff]
    exact (pow_le_iff _ _).mpr (by omega)
  unfold expWord
  rw [hf]; rfl

/-- Between, the kernel's exponent word is the field less 126, where `2 ^ (n - 127) ≤ t < 2 ^ (n - 126)`. -/
theorem expWord_mid (t : ℝ) (n : ℕ) (h1 : 1 ≤ n) (h2 : n ≤ 252) (ha : (2 : ℝ) ^ ((n : ℤ) - 127) ≤ t) (hb : t < (2 : ℝ) ^ ((n : ℤ) - 126)) :
    expWord (t : EReal) = BitVec.ofNat 32 n - 126#32 := by
  have hf : searchField (t : EReal) = BitVec.ofNat 32 n := searchField_eq _ n (by omega) fun m h3 h4 => by
    rw [fieldPow_eq _ (by omega) (by omega), EReal.coe_le_coe_iff]
    refine ⟨fun hh => ?_, fun hh => le_trans ((pow_le_iff _ _).mpr (by omega)) ha⟩
    by_contra hc
    have := lt_of_le_of_lt hh hb
    exact absurd ((pow_le_iff _ _).mpr (by omega)) (not_le.mpr this)
  have hw : ∀ n : Fin 253, 1 ≤ n.val → Scalar.select (IntOp.ori (IntOp.cmpi .eq (BitVec.ofNat 32 n.val) 0#32) (IntOp.cmpi .eq (BitVec.ofNat 32 n.val) 255#32)) 0#32
    (IntOp.subi (BitVec.ofNat 32 n.val) 126#32) = BitVec.ofNat 32 n.val - 126#32 := by decide +kernel
  unfold expWord
  rw [hf]
  exact hw ⟨n, by omega⟩ h1

/-- The binade of a real in the normal range. -/
theorem binade (t : ℝ) (ha : (2 : ℝ) ^ (-126 : ℤ) ≤ t) (hb : t < (2 : ℝ) ^ (126 : ℤ)) :
    ∃ n : ℕ, 1 ≤ n ∧ n ≤ 252 ∧ (2 : ℝ) ^ ((n : ℤ) - 127) ≤ t ∧ t < (2 : ℝ) ^ ((n : ℤ) - 126) ∧ ⌊Real.log t * (Real.log 2)⁻¹⌋ = (n : ℤ) - 127 := by
  have h0 : 0 < t := lt_of_lt_of_le (by positivity) ha
  have hl : 0 < Real.log 2 := Real.log_pos (by norm_num)
  have key : ∀ k : ℤ, (2 : ℝ) ^ k ≤ t ↔ (k : ℝ) ≤ Real.log t * (Real.log 2)⁻¹ := fun k => by
    rw [← Real.log_le_log_iff (by positivity) h0, Real.log_zpow, ← div_eq_mul_inv, le_div_iff₀ hl]
  set f := ⌊Real.log t * (Real.log 2)⁻¹⌋ with hf
  have f1 : (2 : ℝ) ^ f ≤ t := (key f).mpr (Int.floor_le _)
  have f2 : t < (2 : ℝ) ^ (f + 1) := by
    rw [← not_le, key]
    push_cast
    exact not_le.mpr (Int.lt_floor_add_one _)
  have g1 : -126 ≤ f := by rw [hf, Int.le_floor]; exact_mod_cast (key (-126)).mp ha
  have g2 : f < 126 := by
    have := lt_of_le_of_lt f1 hb
    by_contra hc
    exact absurd ((pow_le_iff 126 f).mpr (by omega)) (not_le.mpr this)
  refine ⟨(f + 127).toNat, by omega, by omega, ?_, ?_, by omega⟩
  · have : ((f + 127).toNat : ℤ) - 127 = f := by omega
    rw [this]; exact f1
  · have : ((f + 127).toNat : ℤ) - 126 = f + 1 := by omega
    rw [this]; exact f2

/-- Either the kernel's exponent word and the reference's exponent are both zero, or they are `n - 126` for one `n` from 1 to 252. -/
theorem exponents (t : EReal) : (expWord t = 0#32 ∧ refExp t = ((0 : ℝ) : EReal)) ∨
    ∃ n : ℕ, 1 ≤ n ∧ n ≤ 252 ∧ expWord t = BitVec.ofNat 32 n - 126#32 ∧ refExp t = (((n : ℝ) - 126 : ℝ) : EReal) := by
  unfold refExp
  rw [bits_min, bits_max, bits_two, bits_one, bits_zero]
  change (_ ∧ Scalar.select (BitVec.ofBool (decide (_ < _)) ||| BitVec.ofBool (decide (_ ≤ _))) _ _ = _) ∨ ∃ n : ℕ, _ ∧ _ ∧ _ ∧
    Scalar.select (BitVec.ofBool (decide (_ < _)) ||| BitVec.ofBool (decide (_ ≤ _))) _ _ = _
  by_cases ha : t < (((2 : ℝ) ^ (-126 : ℤ) : ℝ) : EReal)
  · exact Or.inl ⟨expWord_small t ha, by
      rw [decide_eq_true ha]
      cases decide ((((2 : ℝ) ^ (126 : ℤ) : ℝ) : EReal) ≤ t) <;> rfl⟩
  by_cases hb : (((2 : ℝ) ^ (126 : ℤ) : ℝ) : EReal) ≤ t
  · exact Or.inl ⟨expWord_large t hb, by rw [decide_eq_true hb, decide_eq_false ha]; rfl⟩
  right
  rw [decide_eq_false ha, decide_eq_false hb]
  induction t using EReal.rec with
  | bot => exact absurd (EReal.bot_lt_coe _) ha
  | top => exact absurd le_top hb
  | coe r =>
    rw [EReal.coe_lt_coe_iff] at ha
    rw [EReal.coe_le_coe_iff] at hb
    obtain ⟨n, h1, h2, h3, h4, h5⟩ := binade r (not_lt.mp ha) (not_le.mp hb)
    refine ⟨n, h1, h2, expWord_mid r n h1 h2 h3 h4, ?_⟩
    have hr : ¬ r ≤ 0 := not_le.mpr (lt_of_lt_of_le (by positivity) (not_lt.mp ha))
    have h2' : ¬ (2 : ℝ) ≤ 0 := by norm_num
    have hl : Real.log 2 ≠ 0 := (Real.log_pos (by norm_num)).ne'
    have hl' : ((Real.log 2 : ℝ) : EReal) ≠ 0 := by exact_mod_cast hl
    change Ideal.liftRound Int.floor (Ideal.div (Ideal.log ((r : ℝ) : EReal)) (Ideal.log ((2 : ℝ) : EReal))) + _ = _
    have e1 : Ideal.log ((r : ℝ) : EReal) = ((Real.log r : ℝ) : EReal) := by change (if r ≤ 0 then _ else _) = _; rw [if_neg hr]
    have e2 : Ideal.log ((2 : ℝ) : EReal) = ((Real.log 2 : ℝ) : EReal) := by change (if (2 : ℝ) ≤ 0 then _ else _) = _; rw [if_neg h2']
    rw [e1, e2]
    unfold Ideal.div
    rw [if_neg hl', ← EReal.coe_inv, ← EReal.coe_mul]
    change (((⌊Real.log r * (Real.log 2)⁻¹⌋ : ℤ) : ℝ) : EReal) + _ = _
    rw [h5, ← EReal.coe_add]
    congr 1
    push_cast
    ring

/-- The kernel's scale is two to the reference's exponent. -/
theorem scaleWord_eq (t : EReal) : scaleWord t = Ideal.exp2 (refExp t) := by
  unfold scaleWord
  rcases exponents t with ⟨h1, h2⟩ | ⟨n, h1, h2, h3, h4⟩
  · rw [h1, h2]
    have e : IntOp.addi 0#32 127#32 = BitVec.ofNat 32 127 := rfl
    rw [e, fieldPow_eq 127 (by omega) (by omega)]
    change _ = ((Real.rpow 2 0 : ℝ) : EReal)
    norm_num
  · rw [h3, h4]
    have e : ∀ n : Fin 253, IntOp.addi (BitVec.ofNat 32 n.val - 126#32) 127#32 = BitVec.ofNat 32 (n.val + 1) := by decide +kernel
    rw [e ⟨n, by omega⟩, fieldPow_eq _ (by omega) (by omega)]
    change _ = ((Real.rpow 2 ((n : ℝ) - 126) : ℝ) : EReal)
    congr 1
    change _ = (2 : ℝ) ^ ((n : ℝ) - 126)
    rw [← Real.rpow_intCast]
    congr 1
    push_cast
    ring

/-- The kernel's reciprocal scale is two to the negated reference's exponent. -/
theorem invWord_eq (t : EReal) : invWord t = Ideal.exp2 (((0 : ℝ) : EReal) - refExp t) := by
  unfold invWord
  rcases exponents t with ⟨h1, h2⟩ | ⟨n, h1, h2, h3, h4⟩
  · rw [h1, h2]
    have e : IntOp.addi (IntOp.subi 0#32 0#32) 127#32 = BitVec.ofNat 32 127 := rfl
    rw [e, fieldPow_eq 127 (by omega) (by omega), ← EReal.coe_sub]
    change _ = ((Real.rpow 2 (0 - 0) : ℝ) : EReal)
    norm_num
  · rw [h3, h4, ← EReal.coe_sub]
    have e : ∀ n : Fin 253, 1 ≤ n.val → IntOp.addi (IntOp.subi 0#32 (BitVec.ofNat 32 n.val - 126#32)) 127#32 = BitVec.ofNat 32 (253 - n.val) := by decide +kernel
    rw [e ⟨n, by omega⟩ h1, fieldPow_eq _ (by dsimp only; omega) (by dsimp only; omega)]
    change _ = ((Real.rpow 2 (0 - ((n : ℝ) - 126)) : ℝ) : EReal)
    congr 1
    change _ = (2 : ℝ) ^ (0 - ((n : ℝ) - 126))
    rw [← Real.rpow_intCast]
    congr 1
    rw [Nat.cast_sub (by omega)]
    push_cast
    ring

end Cert.Exponent

end
-- ==== Proof.RowExponent.lean ====
module

public import proofs.«01_k».proof.Proof.RowMax
public import proofs.«01_k».proof.Proof.Exponent

@[expose] public section

set_option maxRecDepth 16384

noncomputable section

namespace Cert.KernelIdeal.Gen

open Idealize.ShloMosaic Idealize.ShloMosaic.TcCoe Idealize.ShloMosaic.Tactic
open Idealize.SL
open Cert.Exponent

/-- The number whose exponent a row's scale is: the square of the row's greatest activation, times the float32 number next to 1/448. -/
def rowT (x0 : Vec Ideal S512x2560 .fp8e4m3) (x1 : Vec Ideal S128x128 .f32) (x2 : Vec Ideal S2560x5120 .fp8e4m3) (x3 : Vec Ideal S1x5120 .f32)
    (i : grid0.Coords) (r : Fin 512) : EReal :=
  ((Finset.univ.sup fun n : Fin 5120 => (hBlk x0 x1 x2 x3 i (ix2 r n) : EReal)) * (Finset.univ.sup fun n : Fin 5120 => (hBlk x0 x1 x2 x3 i (ix2 r n) : EReal)))
    * FloatOps.ofBits (F := Ideal) .f32 0x3B124925#32

/-- What the quantiser starts from, in every lane of a row. -/
theorem r_41_apply (c : Dev nD) (i : grid0.Coords) (arg1 : Memref sig .tc .vmem S512x2560 .fp8e4m3) (harg1 : arg1.IsWhole)
    (arg2 : Memref sig .tc .vmem S128x128 .f32) (harg2 : arg2.IsWhole) (arg3 : Memref sig .tc .vmem S2560x5120 .fp8e4m3) (harg3 : arg3.IsWhole)
    (arg4 : Memref sig .tc .vmem S1x5120 .f32) (harg4 : arg4.IsWhole)
    (x0 : Vec Ideal S512x2560 .fp8e4m3) (x1 : Vec Ideal S128x128 .f32) (x2 : Vec Ideal S2560x5120 .fp8e4m3) (x3 : Vec Ideal S1x5120 .f32) (r : Fin 512) (l : Fin 128) :
    kernelRun.sl.r_41 (F := Ideal) c i arg1 harg1 arg2 harg2 arg3 harg3 arg4 harg4 x0 x1 x2 x3 (ix2 r l) = rowT x0 x1 x2 x3 i r := by
  unfold kernelRun.sl.r_41 k0_pay122 rowT
  have h := running_max c i arg1 harg1 arg2 harg2 arg3 harg3 arg4 harg4 x0 x1 x2 x3
  rw [h]
  pointwise

theorem r_42_apply (c : Dev nD) (i : grid0.Coords) (arg1 : Memref sig .tc .vmem S512x2560 .fp8e4m3) (harg1 : arg1.IsWhole)
    (arg2 : Memref sig .tc .vmem S128x128 .f32) (harg2 : arg2.IsWhole) (arg3 : Memref sig .tc .vmem S2560x5120 .fp8e4m3) (harg3 : arg3.IsWhole)
    (arg4 : Memref sig .tc .vmem S1x5120 .f32) (harg4 : arg4.IsWhole)
    (x0 : Vec Ideal S512x2560 .fp8e4m3) (x1 : Vec Ideal S128x128 .f32) (x2 : Vec Ideal S2560x5120 .fp8e4m3) (x3 : Vec Ideal S1x5120 .f32) (x : S512x128.Idx) :
    kernelRun.sl.r_42 (F := Ideal) c i arg1 harg1 arg2 harg2 arg3 harg3 arg4 harg4 x0 x1 x2 x3 x = searchStep (kernelRun.sl.r_41 (F := Ideal) c i arg1 harg1 arg2 harg2 arg3 harg3 arg4 harg4 x0 x1 x2 x3 x) 128#32 0#32 := rfl

theorem r_44_apply (c : Dev nD) (i : grid0.Coords) (arg1 : Memref sig .tc .vmem S512x2560 .fp8e4m3) (harg1 : arg1.IsWhole)
    (arg2 : Memref sig .tc .vmem S128x128 .f32) (harg2 : arg2.IsWhole) (arg3 : Memref sig .tc .vmem S2560x5120 .fp8e4m3) (harg3 : arg3.IsWhole)
    (arg4 : Memref sig .tc .vmem S1x5120 .f32) (harg4 : arg4.IsWhole)
    (x0 : Vec Ideal S512x2560 .fp8e4m3) (x1 : Vec Ideal S128x128 .f32) (x2 : Vec Ideal S2560x5120 .fp8e4m3) (x3 : Vec Ideal S1x5120 .f32) (x : S512x128.Idx) :
    kernelRun.sl.r_44 (F := Ideal) c i arg1 harg1 arg2 harg2 arg3 harg3 arg4 harg4 x0 x1 x2 x3 x
    = searchStep (kernelRun.sl.r_41 (F := Ideal) c i arg1 harg1 arg2 harg2 arg3 harg3 arg4 harg4 x0 x1 x2 x3 x) 16#32 (searchStep (kernelRun.sl.r_41 (F := Ideal) c i arg1 harg1 arg2 harg2 arg3 harg3 arg4 harg4 x0 x1 x2 x3 x) 32#32
      (searchStep (kernelRun.sl.r_41 (F := Ideal) c i arg1 harg1 arg2 harg2 arg3 harg3 arg4 harg4 x0 x1 x2 x3 x) 64#32 (kernelRun.sl.r_42 (F := Ideal) c i arg1 harg1 arg2 harg2 arg3 harg3 arg4 harg4 x0 x1 x2 x3 x))) := rfl

theorem r_46_apply (c : Dev nD) (i : grid0.Coords) (arg1 : Memref sig .tc .vmem S512x2560 .fp8e4m3) (harg1 : arg1.IsWhole)
    (arg2 : Memref sig .tc .vmem S128x128 .f32) (harg2 : arg2.IsWhole) (arg3 : Memref sig .tc .vmem S2560x5120 .fp8e4m3) (harg3 : arg3.IsWhole)
    (arg4 : Memref sig .tc .vmem S1x5120 .f32) (harg4 : arg4.IsWhole)
    (x0 : Vec Ideal S512x2560 .fp8e4m3) (x1 : Vec Ideal S128x128 .f32) (x2 : Vec Ideal S2560x5120 .fp8e4m3) (x3 : Vec Ideal S1x5120 .f32) (x : S512x128.Idx) :
    kernelRun.sl.r_46 (F := Ideal) c i arg1 harg1 arg2 harg2 arg3 harg3 arg4 harg4 x0 x1 x2 x3 x
    = searchStep (kernelRun.sl.r_41 (F := Ideal) c i arg1 harg1 arg2 harg2 arg3 harg3 arg4 harg4 x0 x1 x2 x3 x) 2#32 (searchStep (kernelRun.sl.r_41 (F := Ideal) c i arg1 harg1 arg2 harg2 arg3 harg3 arg4 harg4 x0 x1 x2 x3 x) 4#32
      (searchStep (kernelRun.sl.r_41 (F := Ideal) c i arg1 harg1 arg2 harg2 arg3 harg3 arg4 harg4 x0 x1 x2 x3 x) 8#32 (kernelRun.sl.r_44 (F := Ideal) c i arg1 harg1 arg2 harg2 arg3 harg3 arg4 harg4 x0 x1 x2 x3 x))) := rfl

/-- The last step of the search. -/
theorem field_apply (c : Dev nD) (i : grid0.Coords) (arg1 : Memref sig .tc .vmem S512x2560 .fp8e4m3) (harg1 : arg1.IsWhole)
    (arg2 : Memref sig .tc .vmem S128x128 .f32) (harg2 : arg2.IsWhole) (arg3 : Memref sig .tc .vmem S2560x5120 .fp8e4m3) (harg3 : arg3.IsWhole)
    (arg4 : Memref sig .tc .vmem S1x5120 .f32) (harg4 : arg4.IsWhole)
    (x0 : Vec Ideal S512x2560 .fp8e4m3) (x1 : Vec Ideal S128x128 .f32) (x2 : Vec Ideal S2560x5120 .fp8e4m3) (x3 : Vec Ideal S1x5120 .f32) (x : S512x128.Idx) :
    searchStep (kernelRun.sl.r_41 (F := Ideal) c i arg1 harg1 arg2 harg2 arg3 harg3 arg4 harg4 x0 x1 x2 x3 x) 1#32 (kernelRun.sl.r_46 (F := Ideal) c i arg1 harg1 arg2 harg2 arg3 harg3 arg4 harg4 x0 x1 x2 x3 x)
    = searchField (kernelRun.sl.r_41 (F := Ideal) c i arg1 harg1 arg2 harg2 arg3 harg3 arg4 harg4 x0 x1 x2 x3 x) := by
  rw [r_46_apply, r_44_apply, r_42_apply]
  rfl

/-- The exponent word of every lane of a row. -/
theorem exp_apply (c : Dev nD) (i : grid0.Coords) (arg1 : Memref sig .tc .vmem S512x2560 .fp8e4m3) (harg1 : arg1.IsWhole)
    (arg2 : Memref sig .tc .vmem S128x128 .f32) (harg2 : arg2.IsWhole) (arg3 : Memref sig .tc .vmem S2560x5120 .fp8e4m3) (harg3 : arg3.IsWhole)
    (arg4 : Memref sig .tc .vmem S1x5120 .f32) (harg4 : arg4.IsWhole)
    (x0 : Vec Ideal S512x2560 .fp8e4m3) (x1 : Vec Ideal S128x128 .f32) (x2 : Vec Ideal S2560x5120 .fp8e4m3) (x3 : Vec Ideal S1x5120 .f32) (x : S512x128.Idx) :
    k0_pay129 (F := Ideal) (kernelRun.sl.r_41 (F := Ideal) c i arg1 harg1 arg2 harg2 arg3 harg3 arg4 harg4 x0 x1 x2 x3) (kernelRun.sl.r_46 (F := Ideal) c i arg1 harg1 arg2 harg2 arg3 harg3 arg4 harg4 x0 x1 x2 x3) (kernelRun.sl.r_47 (F := Ideal) c i arg1 harg1 arg2 harg2 arg3 harg3 arg4 harg4 x0 x1 x2 x3) 127#32 x
    = expWord (kernelRun.sl.r_41 (F := Ideal) c i arg1 harg1 arg2 harg2 arg3 harg3 arg4 harg4 x0 x1 x2 x3 x) := by
  unfold expWord
  rw [← field_apply]
  rfl

/-- The reciprocal scale of every lane of a row. -/
theorem inv_apply (c : Dev nD) (i : grid0.Coords) (arg1 : Memref sig .tc .vmem S512x2560 .fp8e4m3) (harg1 : arg1.IsWhole)
    (arg2 : Memref sig .tc .vmem S128x128 .f32) (harg2 : arg2.IsWhole) (arg3 : Memref sig .tc .vmem S2560x5120 .fp8e4m3) (harg3 : arg3.IsWhole)
    (arg4 : Memref sig .tc .vmem S1x5120 .f32) (harg4 : arg4.IsWhole)
    (x0 : Vec Ideal S512x2560 .fp8e4m3) (x1 : Vec Ideal S128x128 .f32) (x2 : Vec Ideal S2560x5120 .fp8e4m3) (x3 : Vec Ideal S1x5120 .f32) (r : Fin 512) (l : Fin 128) :
    kernelRun.sl.r_48 (F := Ideal) c i arg1 harg1 arg2 harg2 arg3 harg3 arg4 harg4 x0 x1 x2 x3 (ix2 r l) = invWord (rowT x0 x1 x2 x3 i r) := by
  rw [← r_41_apply c i arg1 harg1 arg2 harg2 arg3 harg3 arg4 harg4 x0 x1 x2 x3 r l]
  unfold invWord
  rw [← exp_apply]
  rfl

/-- The scale of every lane of a row. -/
theorem scale_apply (c : Dev nD) (i : grid0.Coords) (arg1 : Memref sig .tc .vmem S512x2560 .fp8e4m3) (harg1 : arg1.IsWhole)
    (arg2 : Memref sig .tc .vmem S128x128 .f32) (harg2 : arg2.IsWhole) (arg3 : Memref sig .tc .vmem S2560x5120 .fp8e4m3) (harg3 : arg3.IsWhole)
    (arg4 : Memref sig .tc .vmem S1x5120 .f32) (harg4 : arg4.IsWhole)
    (x0 : Vec Ideal S512x2560 .fp8e4m3) (x1 : Vec Ideal S128x128 .f32) (x2 : Vec Ideal S2560x5120 .fp8e4m3) (x3 : Vec Ideal S1x5120 .f32) (r : Fin 512) (l : Fin 128) :
    k0_pay131 (F := Ideal) (kernelRun.sl.r_41 (F := Ideal) c i arg1 harg1 arg2 harg2 arg3 harg3 arg4 harg4 x0 x1 x2 x3) (kernelRun.sl.r_46 (F := Ideal) c i arg1 harg1 arg2 harg2 arg3 harg3 arg4 harg4 x0 x1 x2 x3) (kernelRun.sl.r_47 (F := Ideal) c i arg1 harg1 arg2 harg2 arg3 harg3 arg4 harg4 x0 x1 x2 x3) 127#32 (ix2 r l)
      = scaleWord (rowT x0 x1 x2 x3 i r) := by
  rw [← r_41_apply c i arg1 harg1 arg2 harg2 arg3 harg3 arg4 harg4 x0 x1 x2 x3 r l]
  unfold scaleWord
  rw [← exp_apply]
  rfl

end Cert.KernelIdeal.Gen

end
-- ==== Proof.Scratchpad.lean ====
module

public import proofs.«01_k».proof.Proof.RowScales

@[expose] public section

set_option maxRecDepth 16384

noncomputable section

namespace Cert.KernelIdeal.Gen

open Idealize.ShloMosaic Idealize.ShloMosaic.TcCoe Idealize.ShloMosaic.Tactic
open Idealize.SL

/-- Every tile stored to the scratch is a block of the activation. -/
theorem scratch_pieces (c : Dev nD) (i : grid0.Coords) (arg1 : Memref sig .tc .vmem S512x2560 .fp8e4m3) (harg1 : arg1.IsWhole)
    (arg2 : Memref sig .tc .vmem S128x128 .f32) (harg2 : arg2.IsWhole) (arg3 : Memref sig .tc .vmem S2560x5120 .fp8e4m3) (harg3 : arg3.IsWhole)
    (arg4 : Memref sig .tc .vmem S1x5120 .f32) (harg4 : arg4.IsWhole)
    (x0 : Vec Ideal S512x2560 .fp8e4m3) (x1 : Vec Ideal S128x128 .f32) (x2 : Vec Ideal S2560x5120 .fp8e4m3) (x3 : Vec Ideal S1x5120 .f32) :
    View.PiecesOf (hBlk x0 x1 x2 x3 i) (kernelRun.sl.HS0_40 (F := Ideal) c i arg1 harg1 arg2 harg2 arg3 harg3 arg4 harg4 x0 x1 x2 x3) := by
  have hxs := row_scales c i arg2 harg2 x1
  simp only [kernelRun.sl.r, View.readAt_eq_ld, Memref.IsWhole.read_unread] at hxs
  unfold kernelRun.sl.HS0_40
  simp only [View.PiecesOf, kernelRun.sl.r, kernelRun.sl.r_1, kernelRun.sl.r_2, kernelRun.sl.r_3, kernelRun.sl.r_4, kernelRun.sl.r_5, kernelRun.sl.r_6, kernelRun.sl.r_7, kernelRun.sl.r_8, kernelRun.sl.r_9, kernelRun.sl.r_10, kernelRun.sl.r_11, kernelRun.sl.r_12, kernelRun.sl.r_13, kernelRun.sl.r_14, kernelRun.sl.r_15, kernelRun.sl.r_16, kernelRun.sl.r_17, kernelRun.sl.r_18, kernelRun.sl.r_19, kernelRun.sl.r_20, kernelRun.sl.r_21, kernelRun.sl.r_22, kernelRun.sl.r_23, kernelRun.sl.r_24, kernelRun.sl.r_25, kernelRun.sl.r_26, kernelRun.sl.r_27, kernelRun.sl.r_28, kernelRun.sl.r_29, kernelRun.sl.r_30, kernelRun.sl.r_31, kernelRun.sl.r_32, kernelRun.sl.r_33, kernelRun.sl.r_34, kernelRun.sl.r_35, kernelRun.sl.r_36, kernelRun.sl.r_37, kernelRun.sl.r_38, kernelRun.sl.r_39, kernelRun.sl.r_40, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, View.readAt_eq_ld, Memref.IsWhole.read_unread, kernelRun.sl.cst_10, shapeCast_self]
  generalize k0_pay3 _ _ _ _ = xs at hxs ⊢
  refine ⟨fun x => tile_emb slices_S512x512_o0_384_S512x128 inb_S512x2560_S512x2560_0_0 inb_S2560x5120_S2560x512_0_4608 inb_S1x5120_S1x128_0_4992 inb_S512x5120_S512x128_0_4992 rfl xs x0 x1 x2 x3 i hxs x,
    fun x => tile_emb slices_S512x512_o0_256_S512x128 inb_S512x2560_S512x2560_0_0 inb_S2560x5120_S2560x512_0_4608 inb_S1x5120_S1x128_0_4864 inb_S512x5120_S512x128_0_4864 rfl xs x0 x1 x2 x3 i hxs x,
    fun x => tile_emb slices_S512x512_o0_128_S512x128 inb_S512x2560_S512x2560_0_0 inb_S2560x5120_S2560x512_0_4608 inb_S1x5120_S1x128_0_4736 inb_S512x5120_S512x128_0_4736 rfl xs x0 x1 x2 x3 i hxs x,
    fun x => tile_emb slices_S512x512_o0_0_S512x128 inb_S512x2560_S512x2560_0_0 inb_S2560x5120_S2560x512_0_4608 inb_S1x5120_S1x128_0_4608 inb_S512x5120_S512x128_0_4608 rfl xs x0 x1 x2 x3 i hxs x,
    fun x => tile_emb slices_S512x512_o0_384_S512x128 inb_S512x2560_S512x2560_0_0 inb_S2560x5120_S2560x512_0_4096 inb_S1x5120_S1x128_0_4480 inb_S512x5120_S512x128_0_4480 rfl xs x0 x1 x2 x3 i hxs x,
    fun x => tile_emb slices_S512x512_o0_256_S512x128 inb_S512x2560_S512x2560_0_0 inb_S2560x5120_S2560x512_0_4096 inb_S1x5120_S1x128_0_4352 inb_S512x5120_S512x128_0_4352 rfl xs x0 x1 x2 x3 i hxs x,
    fun x => tile_emb slices_S512x512_o0_128_S512x128 inb_S512x2560_S512x2560_0_0 inb_S2560x5120_S2560x512_0_4096 inb_S1x5120_S1x128_0_4224 inb_S512x5120_S512x128_0_4224 rfl xs x0 x1 x2 x3 i hxs x,
    fun x => tile_emb slices_S512x512_o0_0_S512x128 inb_S512x2560_S512x2560_0_0 inb_S2560x5120_S2560x512_0_4096 inb_S1x5120_S1x128_0_4096 inb_S512x5120_S512x128_0_4096 rfl xs x0 x1 x2 x3 i hxs x,
    fun x => tile_emb slices_S512x512_o0_384_S512x128 inb_S512x2560_S512x2560_0_0 inb_S2560x5120_S2560x512_0_3584 inb_S1x5120_S1x128_0_3968 inb_S512x5120_S512x128_0_3968 rfl xs x0 x1 x2 x3 i hxs x,
    fun x => tile_emb slices_S512x512_o0_256_S512x128 inb_S512x2560_S512x2560_0_0 inb_S2560x5120_S2560x512_0_3584 inb_S1x5120_S1x128_0_3840 inb_S512x5120_S512x128_0_3840 rfl xs x0 x1 x2 x3 i hxs x,
    fun x => tile_emb slices_S512x512_o0_128_S512x128 inb_S512x2560_S512x2560_0_0 inb_S2560x5120_S2560x512_0_3584 inb_S1x5120_S1x128_0_3712 inb_S512x5120_S512x128_0_3712 rfl xs x0 x1 x2 x3 i hxs x,
    fun x => tile_emb slices_S512x512_o0_0_S512x128 inb_S512x2560_S512x2560_0_0 inb_S2560x5120_S2560x512_0_3584 inb_S1x5120_S1x128_0_3584 inb_S512x5120_S512x128_0_3584 rfl xs x0 x1 x2 x3 i hxs x,
    fun x => tile_emb slices_S512x512_o0_384_S512x128 inb_S512x2560_S512x2560_0_0 inb_S2560x5120_S2560x512_0_3072 inb_S1x5120_S1x128_0_3456 inb_S512x5120_S512x128_0_3456 rfl xs x0 x1 x2 x3 i hxs x,
    fun x => tile_emb slices_S512x512_o0_256_S512x128 inb_S512x2560_S512x2560_0_0 inb_S2560x5120_S2560x512_0_3072 inb_S1x5120_S1x128_0_3328 inb_S512x5120_S512x128_0_3328 rfl xs x0 x1 x2 x3 i hxs x,
    fun x => tile_emb slices_S512x512_o0_128_S512x128 inb_S512x2560_S512x2560_0_0 inb_S2560x5120_S2560x512_0_3072 inb_S1x5120_S1x128_0_3200 inb_S512x5120_S512x128_0_3200 rfl xs x0 x1 x2 x3 i hxs x,
    fun x => tile_emb slices_S512x512_o0_0_S512x128 inb_S512x2560_S512x2560_0_0 inb_S2560x5120_S2560x512_0_3072 inb_S1x5120_S1x128_0_3072 inb_S512x5120_S512x128_0_3072 rfl xs x0 x1 x2 x3 i hxs x,
    fun x => tile_emb slices_S512x512_o0_384_S512x128 inb_S512x2560_S512x2560_0_0 inb_S2560x5120_S2560x512_0_2560 inb_S1x5120_S1x128_0_2944 inb_S512x5120_S512x128_0_2944 rfl xs x0 x1 x2 x3 i hxs x,
    fun x => tile_emb slices_S512x512_o0_256_S512x128 inb_S512x2560_S512x2560_0_0 inb_S2560x5120_S2560x512_0_2560 inb_S1x5120_S1x128_0_2816 inb_S512x5120_S512x128_0_2816 rfl xs x0 x1 x2 x3 i hxs x,
    fun x => tile_emb slices_S512x512_o0_128_S512x128 inb_S512x2560_S512x2560_0_0 inb_S2560x5120_S2560x512_0_2560 inb_S1x5120_S1x128_0_2688 inb_S512x5120_S512x128_0_2688 rfl xs x0 x1 x2 x3 i hxs x,
    fun x => tile_emb slices_S512x512_o0_0_S512x128 inb_S512x2560_S512x2560_0_0 inb_S2560x5120_S2560x512_0_2560 inb_S1x5120_S1x128_0_2560 inb_S512x5120_S512x128_0_2560 rfl xs x0 x1 x2 x3 i hxs x,
    fun x => tile_emb slices_S512x512_o0_384_S512x128 inb_S512x2560_S512x2560_0_0 inb_S2560x5120_S2560x512_0_2048 inb_S1x5120_S1x128_0_2432 inb_S512x5120_S512x128_0_2432 rfl xs x0 x1 x2 x3 i hxs x,
    fun x => tile_emb slices_S512x512_o0_256_S512x128 inb_S512x2560_S512x2560_0_0 inb_S2560x5120_S2560x512_0_2048 inb_S1x5120_S1x128_0_2304 inb_S512x5120_S512x128_0_2304 rfl xs x0 x1 x2 x3 i hxs x,
    fun x => tile_emb slices_S512x512_o0_128_S512x128 inb_S512x2560_S512x2560_0_0 inb_S2560x5120_S2560x512_0_2048 inb_S1x5120_S1x128_0_2176 inb_S512x5120_S512x128_0_2176 rfl xs x0 x1 x2 x3 i hxs x,
    fun x => tile_emb slices_S512x512_o0_0_S512x128 inb_S512x2560_S512x2560_0_0 inb_S2560x5120_S2560x512_0_2048 inb_S1x5120_S1x128_0_2048 inb_S512x5120_S512x128_0_2048 rfl xs x0 x1 x2 x3 i hxs x,
    fun x => tile_emb slices_S512x512_o0_384_S512x128 inb_S512x2560_S512x2560_0_0 inb_S2560x5120_S2560x512_0_1536 inb_S1x5120_S1x128_0_1920 inb_S512x5120_S512x128_0_1920 rfl xs x0 x1 x2 x3 i hxs x,
    fun x => tile_emb slices_S512x512_o0_256_S512x128 inb_S512x2560_S512x2560_0_0 inb_S2560x5120_S2560x512_0_1536 inb_S1x5120_S1x128_0_1792 inb_S512x5120_S512x128_0_1792 rfl xs x0 x1 x2 x3 i hxs x,
    fun x => tile_emb slices_S512x512_o0_128_S512x128 inb_S512x2560_S512x2560_0_0 inb_S2560x5120_S2560x512_0_1536 inb_S1x5120_S1x128_0_1664 inb_S512x5120_S512x128_0_1664 rfl xs x0 x1 x2 x3 i hxs x,
    fun x => tile_emb slices_S512x512_o0_0_S512x128 inb_S512x2560_S512x2560_0_0 inb_S2560x5120_S2560x512_0_1536 inb_S1x5120_S1x128_0_1536 inb_S512x5120_S512x128_0_1536 rfl xs x0 x1 x2 x3 i hxs x,
    fun x => tile_emb slices_S512x512_o0_384_S512x128 inb_S512x2560_S512x2560_0_0 inb_S2560x5120_S2560x512_0_1024 inb_S1x5120_S1x128_0_1408 inb_S512x5120_S512x128_0_1408 rfl xs x0 x1 x2 x3 i hxs x,
    fun x => tile_emb slices_S512x512_o0_256_S512x128 inb_S512x2560_S512x2560_0_0 inb_S2560x5120_S2560x512_0_1024 inb_S1x5120_S1x128_0_1280 inb_S512x5120_S512x128_0_1280 rfl xs x0 x1 x2 x3 i hxs x,
    fun x => tile_emb slices_S512x512_o0_128_S512x128 inb_S512x2560_S512x2560_0_0 inb_S2560x5120_S2560x512_0_1024 inb_S1x5120_S1x128_0_1152 inb_S512x5120_S512x128_0_1152 rfl xs x0 x1 x2 x3 i hxs x,
    fun x => tile_emb slices_S512x512_o0_0_S512x128 inb_S512x2560_S512x2560_0_0 inb_S2560x5120_S2560x512_0_1024 inb_S1x5120_S1x128_0_1024 inb_S512x5120_S512x128_0_1024 rfl xs x0 x1 x2 x3 i hxs x,
    fun x => tile_emb slices_S512x512_o0_384_S512x128 inb_S512x2560_S512x2560_0_0 inb_S2560x5120_S2560x512_0_512 inb_S1x5120_S1x128_0_896 inb_S512x5120_S512x128_0_896 rfl xs x0 x1 x2 x3 i hxs x,
    fun x => tile_emb slices_S512x512_o0_256_S512x128 inb_S512x2560_S512x2560_0_0 inb_S2560x5120_S2560x512_0_512 inb_S1x5120_S1x128_0_768 inb_S512x5120_S512x128_0_768 rfl xs x0 x1 x2 x3 i hxs x,
    fun x => tile_emb slices_S512x512_o0_128_S512x128 inb_S512x2560_S512x2560_0_0 inb_S2560x5120_S2560x512_0_512 inb_S1x5120_S1x128_0_640 inb_S512x5120_S512x128_0_640 rfl xs x0 x1 x2 x3 i hxs x,
    fun x => tile_emb slices_S512x512_o0_0_S512x128 inb_S512x2560_S512x2560_0_0 inb_S2560x5120_S2560x512_0_512 inb_S1x5120_S1x128_0_512 inb_S512x5120_S512x128_0_512 rfl xs x0 x1 x2 x3 i hxs x,
    fun x => tile_emb slices_S512x512_o0_384_S512x128 inb_S512x2560_S512x2560_0_0 inb_S2560x5120_S2560x512_0_0 inb_S1x5120_S1x128_0_384 inb_S512x5120_S512x128_0_384 rfl xs x0 x1 x2 x3 i hxs x,
    fun x => tile_emb slices_S512x512_o0_256_S512x128 inb_S512x2560_S512x2560_0_0 inb_S2560x5120_S2560x512_0_0 inb_S1x5120_S1x128_0_256 inb_S512x5120_S512x128_0_256 rfl xs x0 x1 x2 x3 i hxs x,
    fun x => tile_emb slices_S512x512_o0_128_S512x128 inb_S512x2560_S512x2560_0_0 inb_S2560x5120_S2560x512_0_0 inb_S1x5120_S1x128_0_128 inb_S512x5120_S512x128_0_128 rfl xs x0 x1 x2 x3 i hxs x,
    fun x => tile_emb slices_S512x512_o0_0_S512x128 inb_S512x2560_S512x2560_0_0 inb_S2560x5120_S2560x512_0_0 inb_S1x5120_S1x128_0_0 inb_S512x5120_S512x128_0_0 rfl xs x0 x1 x2 x3 i hxs x, trivial⟩

/-- What the scratch holds once its forty tiles are stored: the activation. -/
theorem scratch_canon (c : Dev nD) (i : grid0.Coords) (arg1 : Memref sig .tc .vmem S512x2560 .fp8e4m3) (harg1 : arg1.IsWhole)
    (arg2 : Memref sig .tc .vmem S128x128 .f32) (harg2 : arg2.IsWhole) (arg3 : Memref sig .tc .vmem S2560x5120 .fp8e4m3) (harg3 : arg3.IsWhole)
    (arg4 : Memref sig .tc .vmem S1x5120 .f32) (harg4 : arg4.IsWhole)
    (x0 : Vec Ideal S512x2560 .fp8e4m3) (x1 : Vec Ideal S128x128 .f32) (x2 : Vec Ideal S2560x5120 .fp8e4m3) (x3 : Vec Ideal S1x5120 .f32) :
    View.canon (kernelRun.sl.HS0_40 (F := Ideal) c i arg1 harg1 arg2 harg2 arg3 harg3 arg4 harg4 x0 x1 x2 x3) = hBlk x0 x1 x2 x3 i := by
  funext y
  refine View.canon_apply_of_pieces _ _ (scratch_pieces c i arg1 harg1 arg2 harg2 arg3 harg3 arg4 harg4 x0 x1 x2 x3).mem y ?_
  exact View.cover_of_tiledL _ ![512, 128] (by rfl) y

end Cert.KernelIdeal.Gen

end
-- ==== Proof.Run.lean ====
module

public import proofs.«01_k».proof.Proof.KernelRun
public import Idealize.ShloMosaic.Lib.WritesUnit
public import Idealize.ShloMosaic.Lib.Claim
public import Idealize.ShloMosaic.Lib.Pipeline.DatRel
public import Idealize.ShloMosaic.Lib.Pipeline.ArrRel

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Each window's current staging memref at point `t`, and its wholeness. -/
abbrev ms0_0 (t : Fin cfg0.N) : Memref sig .tc .vmem S512x2560 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2560x5120 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x5120 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x5120 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x128 .f32 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S512x5120 .f32 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-! ## What one grid point leaves -/

/-- The run of the body at point `t`, on the staging buffers of that point and the blocks of the inputs. -/
abbrev runAt (c : Dev nD) (t : Fin cfg0.N) :=
  kernelRun (F := F) c (grid0.coords t) (ms0_0 t) (hs0_0 t) (ms0_1 t) (hs0_1 t) (ms0_2 t) (hs0_2 t) (ms0_3 t) (hs0_3 t)
    (ms0_4 t) (hs0_4 t) (ms0_5 t) (hs0_5 t) scM0_0 (Memref.isWhole_whole _) (iblk m c 0 t) (iblk m c 1 t) (iblk m c 2 t) (iblk m c 3 t)

/-- The block of codes that the body stores at point `t`. -/
def codesAt (c : Dev nD) (t : Fin cfg0.N) : Vec F S512x5120 .fp8e4m3 := View.canon (runAt m c t).1

/-- The rows of scales that the body stores at point `t` (rows `4 t … 4 t + 3`; elsewhere nothing is said). -/
def scalesAt (c : Dev nD) (t : Fin cfg0.N) : Vec F S128x128 .f32 := View.canon (runAt m c t).2.1

/-- The stores of the codes cover the block. -/
theorem codes_cover (c : Dev nD) (t : Fin cfg0.N) (y : S512x5120.Idx) : ∃ p ∈ (runAt m c t).1, y ∈ p.1.set :=
  View.cover_of_tiledL _ ![512, 128] (by rfl) y

/-- The first grid coordinate of point `t` is `t`. -/
theorem coords0 : ∀ t : Fin cfg0.N, ((grid0.coords t) 0).val = t.val := by decide +kernel

/-- The stores of point `t` cover the rows `4 t … 4 t + 3`. -/
theorem scales_cover (c : Dev nD) (t : Fin cfg0.N) (y : S128x128.Idx) (h : (y 0).val / 4 = t.val) :
    ∃ p ∈ (runAt m c t).2.1, y ∈ p.1.set := by
  have h0 := coords0 t
  have key : ∀ (r : Fin 4), (y 0).val = 4 * t.val + r.val →
      y ∈ (Rect.unit (s := S128x128) (k0_off1 (grid0.coords t) (BitVec.ofNat 32 r.val)) S1x128.size (k0_off1_inb (grid0.coords t) r)).set := by
    intro r hr
    rw [Rect.mem_set_unit]
    have e := k0_off1_eq (grid0.coords t) r
    have h1 := (y 1).isLt
    intro a
    match a with
    | ⟨0, _⟩ => rw [e]; show 4 * _ + _ ≤ (y 0).val ∧ (y 0).val < 4 * _ + _ + 1; omega
    | ⟨1, _⟩ => rw [e]; show 0 ≤ (y 1).val ∧ (y 1).val < 0 + 128; exact ⟨Nat.zero_le _, by rw [Nat.zero_add]; exact h1⟩
  have hc : (y 0).val = 4 * t.val + 0 ∨ (y 0).val = 4 * t.val + 1 ∨ (y 0).val = 4 * t.val + 2 ∨ (y 0).val = 4 * t.val + 3 := by omega
  rcases hc with hc | hc | hc | hc
  · exact ⟨_, .tail _ (.tail _ (.tail _ (.head _))), key 0 hc⟩
  · exact ⟨_, .tail _ (.tail _ (.head _)), key 1 hc⟩
  · exact ⟨_, .tail _ (.head _), key 2 hc⟩
  · exact ⟨_, .head _, key 3 hc⟩

/-- After the stores of point `t`, a row of `4 t … 4 t + 3` reads the scales stored there. -/
theorem scales_row (c : Dev nD) (t : Fin cfg0.N) (f) (y : S128x128.Idx) (h : (y 0).val / 4 = t.val) :
    (ms0_5 t).view.read (Elt F) ((ms0_5 t).view.writes (Elt F) f (runAt m c t).2.1) y = scalesAt m c t y :=
  View.read_writes_apply_eq_canon _ _ _ _ (scales_cover m c t y h)

/-- After the stores of point `t`, a row outside `4 t … 4 t + 3` reads what was there before. -/
theorem scales_other (c : Dev nD) (t : Fin cfg0.N) (f) (y : S128x128.Idx) (h : (y 0).val / 4 ≠ t.val) :
    (ms0_5 t).view.read (Elt F) ((ms0_5 t).view.writes (Elt F) f (runAt m c t).2.1) y = (ms0_5 t).view.read (Elt F) f y := by
  have h0 := coords0 t
  have e := k0_off1_eq (grid0.coords t)
  unfold runAt kernelRun
  refine (View.read_writes_cons_rows_of_not_mem _ f _ _ _ y (e 3) rfl (by simp only [h0]; show _ ∨ _ + 1 ≤ _; omega)).trans ?_
  refine (View.read_writes_cons_rows_of_not_mem _ f _ _ _ y (e 2) rfl (by simp only [h0]; show _ ∨ _ + 1 ≤ _; omega)).trans ?_
  refine (View.read_writes_cons_rows_of_not_mem _ f _ _ _ y (e 1) rfl (by simp only [h0]; show _ ∨ _ + 1 ≤ _; omega)).trans ?_
  exact View.read_writes_cons_rows_of_not_mem _ f _ _ _ y (e 0) rfl (by simp only [h0]; show _ ∨ _ + 1 ≤ _; omega)

/-! ## The proof data: the codes exact, the scales held to a predicate -/

/-- The scales' window is the one of which only a predicate is kept: its buffer starts at anything and fills by rows. -/
def marks : Fin 6 → Bool := fun w => w.val == 5

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => codesAt m c t
    | ⟨5, h⟩ => Pipeline.Dat.unnamed (cfg := cfg0) ⟨5, h⟩ t
  Φ _ := Pipeline.ΦA spec0 c
  q _ := fullShare
  owed _ := 0

/-- After point `t` the scales' buffer holds, in the rows of every point up to `t`, what that point stored. -/
def scalesOk (c : Dev nD) (t : Fin cfg0.N) (X : Vec F S128x128 .f32) : Prop :=
  ∀ s : Fin cfg0.N, s.val ≤ t.val → ∀ y : S128x128.Idx, (y 0).val / 4 = s.val → X y = scalesAt m c s y

/-- The predicate of each window (only the scales' is read). -/
def Rl (c : Dev nD) (w : Fin cfg0.W) (t : Fin cfg0.N) : ((cfg0.win w).block.Idx → Elt F (cfg0.win w).elt) → Prop := match w with
  | ⟨0, _⟩ => fun _ => True
  | ⟨1, _⟩ => fun _ => True
  | ⟨2, _⟩ => fun _ => True
  | ⟨3, _⟩ => fun _ => True
  | ⟨4, _⟩ => fun _ => True
  | ⟨5, _⟩ => scalesOk m c t

/-- The proof data's arrays are the contents at the region's entry. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = codesAt m c t := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- The relational proof data. -/
abbrev rdat (c : Dev nD) := (dats m 0 c).toRRel marks (Rl m c)

/-- The scales' window is never fetched. -/
theorem fetch0_5 : ∀ t : Fin cfg0.N, (cfg0.win 5).fetch t = false := by decide +kernel

/-- What the body finds in the scales' buffer at point `t` holds the rows of every earlier point. -/
theorem finds_scales (c : Dev nD) (t : Fin cfg0.N) (Y) (h : (rdat m c).Finds 5 t Y) (s : Fin cfg0.N) (hs : s.val < t.val)
    (y : S128x128.Idx) (hy : (y 0).val / 4 = s.val) : (Y : Vec F S128x128 .f32) y = scalesAt m c s y := by
  have ht : t.val ≠ 0 := by omega
  have hN : t.val < 32 := lt_of_lt_of_eq t.isLt N_0
  rcases ((rdat m c).finds_of_pos (fetch0_5 t) ht Y).mp h with hf | hL
  · exact absurd ((flush0_5 _).mp hf) (by show ¬ (t.val - 1) % 32 = 31; omega)
  · exact (dats m 0 c).toRRel_leaves (fgt := marks) (Rl := Rl m c) rfl hL s (by show s.val ≤ t.val - 1; omega) y hy

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ Y, ⌜(rdat m c).Finds 5 t Y⌝ ∗ owns (c : Thread nD τ) (ms0_5 t) fullShare Y))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ (∃ X, ⌜Rl m c 5 t X⌝ ∗ owns (c : Thread nD τ) (ms0_5 t) fullShare X))

/-- The body at any point: the run applies; the codes' block is named, the scales' buffer gains the rows of this point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  rw [show (dats m 0 c).Φ t.castSucc = Pipeline.ΦA spec0 c from rfl, PhiA0_eq]
  iintro ⟨⟨HS0, Hg⟩, Ho, ⟨%d0, H0⟩, ⟨%d1, H1⟩, ⟨%d2, H2⟩, ⟨%d3, H3⟩, ⟨%d4, H4⟩, ⟨%Y, %hY, H5⟩⟩
  iapply ((runAt m c t).2.2 Y Set.univ _)
  isplitl [H0]; · iexact H0
  isplitl [H1]; · iexact H1
  isplitl [H2]; · iexact H2
  isplitl [H3]; · iexact H3
  isplitl [H4]; · iexists _; iexact H4
  isplitl [H5]; · iexact H5
  isplitl [HS0]; · iexact HS0
  iintro ⟨H0, H1, H2, H3, ⟨%f4, H4⟩, H5, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]
  · rw [View.read_writes_eq_canon _ _ _ (codes_cover m c t)]
    iexact H4
  iexists _; isplitr; swap; · iexact H5
  ipureintro
  intro s hs y hy
  by_cases hst : s.val = t.val
  · obtain rfl := Fin.ext hst
    exact scales_row m c s _ y hy
  · refine (scales_other m c t _ y (by omega)).trans ?_
    rw [Memref.IsWhole.read_unread]
    exact finds_scales m c t Y hY s (by omega) y hy

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) :
    Pipeline.BodyObligationRel (dats (F := F) m 0 c) (defs₀ (F := F)) Variants.none () Set.univ marks (Rl m c) := fun t => by
  rw [bigSep_W0, bigSep_W0, defs₀_row]
  exact triple_restated (sound_body m c t) rfl .rfl fun _ => .rfl

/-! ## The run and the frame -/

set_option backward.isDefEq.respectTransparency.types false in
/-- The launch: every fair run ends, with every array at what the relational proof data allow and every semaphore counter at zero. -/
theorem run_main_quiescent : θ_run defs (onTc (τ := τ) (main (F := F))) (s₀ m ρ)
    (fun r => (Pipeline.RDat.FramePost (cfgs 0) (rdat m) (V m)) r ∧ r.2.sem = fun _ => 0) :=
  Pipeline.RDat.θ_run_frame (Q' := _) cfgs (0 : Fin 1) launch0 defs₀ Variants.none (rdat m) m ρ main
    (hbody := fun c => (body_obligation m c).toRRel) (hshare := fun c => (dats m 0 c).share_full fun _ => rfl)
    (howed := fun _ _ => rfl) (V := V m) (hmain := hmain m Variants.none) (hA := A_eq m) (hΦ := fun _ _ => rfl)

/-- The run without the counters. -/
theorem run_main : θ_run defs (onTc (τ := τ) (main (F := F))) (s₀ m ρ) (Pipeline.RDat.FramePost (cfgs 0) (rdat m) (V m)) :=
  (θ_run defs _ _).mono (fun _ h => h.1) (run_main_quiescent m ρ)

/-- The argument arrays of a final state are as they were. -/
theorem args_of_post (r : PUnit × MemSt nD τ sig (Elt F)) (h : Pipeline.RDat.FramePost (cfgs 0) (rdat m) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      (Pipeline.RDat.FramePost.arr_in h c 2 rfl).trans ((A_eq m c 2).trans (V_main_arg2 m c)),
      ((h c).2 main_arg3 (Pipeline.mem_restRefs_of main_arg3 (by decide) (by decide))).trans (V_main_arg3 m c)⟩

/-- The frame claim of the program, for any float values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨args_of_post m r h.1, h.2⟩) (run_main_quiescent m ρ)

end Cert.KernelIdeal.Gen

end
-- ==== Proof.BlockValue.lean ====
module

public import proofs.«01_k».proof.Proof.RowExponent
public import proofs.«01_k».proof.Proof.Scratchpad
public import proofs.«01_k».proof.Proof.Run

@[expose] public section

set_option maxRecDepth 16384

noncomputable section

namespace Cert.KernelIdeal.Gen

open Idealize.ShloMosaic Idealize.ShloMosaic.TcCoe Idealize.ShloMosaic.Tactic
open Idealize.SL
open Cert.Exponent

/-- The codes of a block of 512 rows: the squared activation times the row's reciprocal scale, clipped to ±448. -/
def codesBlk (x0 : Vec Ideal S512x2560 .fp8e4m3) (x1 : Vec Ideal S128x128 .f32) (x2 : Vec Ideal S2560x5120 .fp8e4m3) (x3 : Vec Ideal S1x5120 .f32)
    (i : grid0.Coords) : Vec Ideal S512x5120 .fp8e4m3 := fun y =>
  min (FloatOps.ofBits (F := Ideal) .f32 0x43E00000#32 : EReal) (max (FloatOps.ofBits (F := Ideal) .f32 0xC3E00000#32 : EReal)
    (((hBlk x0 x1 x2 x3 i y : EReal) * (hBlk x0 x1 x2 x3 i y : EReal)) * (invWord (rowT x0 x1 x2 x3 i (y 0)) : EReal)))

/-- One tile of 128 columns of the codes. -/
theorem code_tile {d : ℕ} (inbD : ∀ a, (![0, d] : Fin 2 → ℕ) a + S512x128.size a ≤ S512x5120.size a)
    (x0 : Vec Ideal S512x2560 .fp8e4m3) (x1 : Vec Ideal S128x128 .f32) (x2 : Vec Ideal S2560x5120 .fp8e4m3) (x3 : Vec Ideal S1x5120 .f32)
    (i : grid0.Coords) (V : FVec Ideal S512x128 .f32) (hV : ∀ (r : Fin 512) (l : Fin 128), V (ix2 r l) = invWord (rowT x0 x1 x2 x3 i r))
    (v : Vec Ideal S512x128 .f32)
    (hv : v = fun j => hBlk x0 x1 x2 x3 i ((Rect.unit (s := S512x5120) ![0, d] S512x128.size inbD).toLoadRect.idx j)) (x : S512x128.Idx) :
    k0_pay137 V v x = codesBlk x0 x1 x2 x3 i ((Rect.unit (s := S512x5120) ![0, d] S512x128.size inbD).emb x) := by
  obtain ⟨r, l, rfl⟩ : ∃ (r : Fin 512) (l : Fin 128), x = ix2 r l := ⟨x 0, x 1, eq_ix2 x⟩
  have hd : d + l.val < 5120 := by
    have h1 : d + 128 ≤ 5120 := inbD 1
    have hl := l.isLt
    omega
  subst hv
  have e := emb_tile inbD r l hd
  have e' : (Rect.unit (s := S512x5120) ![0, d] S512x128.size inbD).toLoadRect.idx (ix2 r l) = ix2 r ⟨d + l.val, hd⟩ := e
  show min _ (max _ ((hBlk x0 x1 x2 x3 i ((Rect.unit (s := S512x5120) ![0, d] S512x128.size inbD).toLoadRect.idx (ix2 r l))
      * hBlk x0 x1 x2 x3 i ((Rect.unit (s := S512x5120) ![0, d] S512x128.size inbD).toLoadRect.idx (ix2 r l)) : EReal) * (V (ix2 r l) : EReal))) = _
  rw [e', e, hV r l]
  rfl

/-- A read of the scratch once its forty tiles are stored. -/
theorem scratch_read (c : Dev nD) (i : grid0.Coords) (arg1 : Memref sig .tc .vmem S512x2560 .fp8e4m3) (harg1 : arg1.IsWhole)
    (arg2 : Memref sig .tc .vmem S128x128 .f32) (harg2 : arg2.IsWhole) (arg3 : Memref sig .tc .vmem S2560x5120 .fp8e4m3) (harg3 : arg3.IsWhole)
    (arg4 : Memref sig .tc .vmem S1x5120 .f32) (harg4 : arg4.IsWhole)
    (x0 : Vec Ideal S512x2560 .fp8e4m3) (x1 : Vec Ideal S128x128 .f32) (x2 : Vec Ideal S2560x5120 .fp8e4m3) (x3 : Vec Ideal S1x5120 .f32) (arg7 : Memref sig .tc .vmem S512x5120 .f32) {d : ℕ} (inbD : ∀ a, (![0, d] : Fin 2 → ℕ) a + S512x128.size a ≤ S512x5120.size a) :
    arg7.view.readCov (Val := Elt Ideal) (kernelRun.sl.HS0_40 (F := Ideal) c i arg1 harg1 arg2 harg2 arg3 harg3 arg4 harg4 x0 x1 x2 x3) (Rect.unit (s := S512x5120) ![0, d] S512x128.size inbD).toLoadRect
      = fun j => hBlk x0 x1 x2 x3 i ((Rect.unit (s := S512x5120) ![0, d] S512x128.size inbD).toLoadRect.idx j) := by
  rw [View.readCov_eq_canon', scratch_canon c i arg1 harg1 arg2 harg2 arg3 harg3 arg4 harg4 x0 x1 x2 x3]

/-- Every store of codes writes its tile of the block of codes. -/
theorem code_pieces (c : Dev nD) (i : grid0.Coords) (arg1 : Memref sig .tc .vmem S512x2560 .fp8e4m3) (harg1 : arg1.IsWhole)
    (arg2 : Memref sig .tc .vmem S128x128 .f32) (harg2 : arg2.IsWhole) (arg3 : Memref sig .tc .vmem S2560x5120 .fp8e4m3) (harg3 : arg3.IsWhole)
    (arg4 : Memref sig .tc .vmem S1x5120 .f32) (harg4 : arg4.IsWhole)
    (x0 : Vec Ideal S512x2560 .fp8e4m3) (x1 : Vec Ideal S128x128 .f32) (x2 : Vec Ideal S2560x5120 .fp8e4m3) (x3 : Vec Ideal S1x5120 .f32)
    (arg5 : Memref sig .tc .vmem S512x5120 .fp8e4m3) (harg5 : arg5.IsWhole)
    (arg6 : Memref sig .tc .vmem S128x128 .f32) (harg6 : arg6.IsWhole) (arg7 : Memref sig .tc .vmem S512x5120 .f32) (harg7 : arg7.IsWhole) :
    View.PiecesOf (codesBlk x0 x1 x2 x3 i) (kernelRun (F := Ideal) c i arg1 harg1 arg2 harg2 arg3 harg3 arg4 harg4 arg5 harg5 arg6 harg6 arg7 harg7 x0 x1 x2 x3).1 := by
  have hV := inv_apply c i arg1 harg1 arg2 harg2 arg3 harg3 arg4 harg4 x0 x1 x2 x3
  unfold kernelRun
  dsimp only
  exact ⟨
    fun x => code_tile inb_S512x5120_S512x128_0_4992 x0 x1 x2 x3 i _ hV _ (scratch_read c i arg1 harg1 arg2 harg2 arg3 harg3 arg4 harg4 x0 x1 x2 x3 arg7 _) x,
    fun x => code_tile inb_S512x5120_S512x128_0_4864 x0 x1 x2 x3 i _ hV _ (scratch_read c i arg1 harg1 arg2 harg2 arg3 harg3 arg4 harg4 x0 x1 x2 x3 arg7 _) x,
    fun x => code_tile inb_S512x5120_S512x128_0_4736 x0 x1 x2 x3 i _ hV _ (scratch_read c i arg1 harg1 arg2 harg2 arg3 harg3 arg4 harg4 x0 x1 x2 x3 arg7 _) x,
    fun x => code_tile inb_S512x5120_S512x128_0_4608 x0 x1 x2 x3 i _ hV _ (scratch_read c i arg1 harg1 arg2 harg2 arg3 harg3 arg4 harg4 x0 x1 x2 x3 arg7 _) x,
    fun x => code_tile inb_S512x5120_S512x128_0_4480 x0 x1 x2 x3 i _ hV _ (scratch_read c i arg1 harg1 arg2 harg2 arg3 harg3 arg4 harg4 x0 x1 x2 x3 arg7 _) x,
    fun x => code_tile inb_S512x5120_S512x128_0_4352 x0 x1 x2 x3 i _ hV _ (scratch_read c i arg1 harg1 arg2 harg2 arg3 harg3 arg4 harg4 x0 x1 x2 x3 arg7 _) x,
    fun x => code_tile inb_S512x5120_S512x128_0_4224 x0 x1 x2 x3 i _ hV _ (scratch_read c i arg1 harg1 arg2 harg2 arg3 harg3 arg4 harg4 x0 x1 x2 x3 arg7 _) x,
    fun x => code_tile inb_S512x5120_S512x128_0_4096 x0 x1 x2 x3 i _ hV _ (scratch_read c i arg1 harg1 arg2 harg2 arg3 harg3 arg4 harg4 x0 x1 x2 x3 arg7 _) x,
    fun x => code_tile inb_S512x5120_S512x128_0_3968 x0 x1 x2 x3 i _ hV _ (scratch_read c i arg1 harg1 arg2 harg2 arg3 harg3 arg4 harg4 x0 x1 x2 x3 arg7 _) x,
    fun x => code_tile inb_S512x5120_S512x128_0_3840 x0 x1 x2 x3 i _ hV _ (scratch_read c i arg1 harg1 arg2 harg2 arg3 harg3 arg4 harg4 x0 x1 x2 x3 arg7 _) x,
    fun x => code_tile inb_S512x5120_S512x128_0_3712 x0 x1 x2 x3 i _ hV _ (scratch_read c i arg1 harg1 arg2 harg2 arg3 harg3 arg4 harg4 x0 x1 x2 x3 arg7 _) x,
    fun x => code_tile inb_S512x5120_S512x128_0_3584 x0 x1 x2 x3 i _ hV _ (scratch_read c i arg1 harg1 arg2 harg2 arg3 harg3 arg4 harg4 x0 x1 x2 x3 arg7 _) x,
    fun x => code_tile inb_S512x5120_S512x128_0_3456 x0 x1 x2 x3 i _ hV _ (scratch_read c i arg1 harg1 arg2 harg2 arg3 harg3 arg4 harg4 x0 x1 x2 x3 arg7 _) x,
    fun x => code_tile inb_S512x5120_S512x128_0_3328 x0 x1 x2 x3 i _ hV _ (scratch_read c i arg1 harg1 arg2 harg2 arg3 harg3 arg4 harg4 x0 x1 x2 x3 arg7 _) x,
    fun x => code_tile inb_S512x5120_S512x128_0_3200 x0 x1 x2 x3 i _ hV _ (scratch_read c i arg1 harg1 arg2 harg2 arg3 harg3 arg4 harg4 x0 x1 x2 x3 arg7 _) x,
    fun x => code_tile inb_S512x5120_S512x128_0_3072 x0 x1 x2 x3 i _ hV _ (scratch_read c i arg1 harg1 arg2 harg2 arg3 harg3 arg4 harg4 x0 x1 x2 x3 arg7 _) x,
    fun x => code_tile inb_S512x5120_S512x128_0_2944 x0 x1 x2 x3 i _ hV _ (scratch_read c i arg1 harg1 arg2 harg2 arg3 harg3 arg4 harg4 x0 x1 x2 x3 arg7 _) x,
    fun x => code_tile inb_S512x5120_S512x128_0_2816 x0 x1 x2 x3 i _ hV _ (scratch_read c i arg1 harg1 arg2 harg2 arg3 harg3 arg4 harg4 x0 x1 x2 x3 arg7 _) x,
    fun x => code_tile inb_S512x5120_S512x128_0_2688 x0 x1 x2 x3 i _ hV _ (scratch_read c i arg1 harg1 arg2 harg2 arg3 harg3 arg4 harg4 x0 x1 x2 x3 arg7 _) x,
    fun x => code_tile inb_S512x5120_S512x128_0_2560 x0 x1 x2 x3 i _ hV _ (scratch_read c i arg1 harg1 arg2 harg2 arg3 harg3 arg4 harg4 x0 x1 x2 x3 arg7 _) x,
    fun x => code_tile inb_S512x5120_S512x128_0_2432 x0 x1 x2 x3 i _ hV _ (scratch_read c i arg1 harg1 arg2 harg2 arg3 harg3 arg4 harg4 x0 x1 x2 x3 arg7 _) x,
    fun x => code_tile inb_S512x5120_S512x128_0_2304 x0 x1 x2 x3 i _ hV _ (scratch_read c i arg1 harg1 arg2 harg2 arg3 harg3 arg4 harg4 x0 x1 x2 x3 arg7 _) x,
    fun x => code_tile inb_S512x5120_S512x128_0_2176 x0 x1 x2 x3 i _ hV _ (scratch_read c i arg1 harg1 arg2 harg2 arg3 harg3 arg4 harg4 x0 x1 x2 x3 arg7 _) x,
    fun x => code_tile inb_S512x5120_S512x128_0_2048 x0 x1 x2 x3 i _ hV _ (scratch_read c i arg1 harg1 arg2 harg2 arg3 harg3 arg4 harg4 x0 x1 x2 x3 arg7 _) x,
    fun x => code_tile inb_S512x5120_S512x128_0_1920 x0 x1 x2 x3 i _ hV _ (scratch_read c i arg1 harg1 arg2 harg2 arg3 harg3 arg4 harg4 x0 x1 x2 x3 arg7 _) x,
    fun x => code_tile inb_S512x5120_S512x128_0_1792 x0 x1 x2 x3 i _ hV _ (scratch_read c i arg1 harg1 arg2 harg2 arg3 harg3 arg4 harg4 x0 x1 x2 x3 arg7 _) x,
    fun x => code_tile inb_S512x5120_S512x128_0_1664 x0 x1 x2 x3 i _ hV _ (scratch_read c i arg1 harg1 arg2 harg2 arg3 harg3 arg4 harg4 x0 x1 x2 x3 arg7 _) x,
    fun x => code_tile inb_S512x5120_S512x128_0_1536 x0 x1 x2 x3 i _ hV _ (scratch_read c i arg1 harg1 arg2 harg2 arg3 harg3 arg4 harg4 x0 x1 x2 x3 arg7 _) x,
    fun x => code_tile inb_S512x5120_S512x128_0_1408 x0 x1 x2 x3 i _ hV _ (scratch_read c i arg1 harg1 arg2 harg2 arg3 harg3 arg4 harg4 x0 x1 x2 x3 arg7 _) x,
    fun x => code_tile inb_S512x5120_S512x128_0_1280 x0 x1 x2 x3 i _ hV _ (scratch_read c i arg1 harg1 arg2 harg2 arg3 harg3 arg4 harg4 x0 x1 x2 x3 arg7 _) x,
    fun x => code_tile inb_S512x5120_S512x128_0_1152 x0 x1 x2 x3 i _ hV _ (scratch_read c i arg1 harg1 arg2 harg2 arg3 harg3 arg4 harg4 x0 x1 x2 x3 arg7 _) x,
    fun x => code_tile inb_S512x5120_S512x128_0_1024 x0 x1 x2 x3 i _ hV _ (scratch_read c i arg1 harg1 arg2 harg2 arg3 harg3 arg4 harg4 x0 x1 x2 x3 arg7 _) x,
    fun x => code_tile inb_S512x5120_S512x128_0_896 x0 x1 x2 x3 i _ hV _ (scratch_read c i arg1 harg1 arg2 harg2 arg3 harg3 arg4 harg4 x0 x1 x2 x3 arg7 _) x,
    fun x => code_tile inb_S512x5120_S512x128_0_768 x0 x1 x2 x3 i _ hV _ (scratch_read c i arg1 harg1 arg2 harg2 arg3 harg3 arg4 harg4 x0 x1 x2 x3 arg7 _) x,
    fun x => code_tile inb_S512x5120_S512x128_0_640 x0 x1 x2 x3 i _ hV _ (scratch_read c i arg1 harg1 arg2 harg2 arg3 harg3 arg4 harg4 x0 x1 x2 x3 arg7 _) x,
    fun x => code_tile inb_S512x5120_S512x128_0_512 x0 x1 x2 x3 i _ hV _ (scratch_read c i arg1 harg1 arg2 harg2 arg3 harg3 arg4 harg4 x0 x1 x2 x3 arg7 _) x,
    fun x => code_tile inb_S512x5120_S512x128_0_384 x0 x1 x2 x3 i _ hV _ (scratch_read c i arg1 harg1 arg2 harg2 arg3 harg3 arg4 harg4 x0 x1 x2 x3 arg7 _) x,
    fun x => code_tile inb_S512x5120_S512x128_0_256 x0 x1 x2 x3 i _ hV _ (scratch_read c i arg1 harg1 arg2 harg2 arg3 harg3 arg4 harg4 x0 x1 x2 x3 arg7 _) x,
    fun x => code_tile inb_S512x5120_S512x128_0_128 x0 x1 x2 x3 i _ hV _ (scratch_read c i arg1 harg1 arg2 harg2 arg3 harg3 arg4 harg4 x0 x1 x2 x3 arg7 _) x,
    fun x => code_tile inb_S512x5120_S512x128_0_0 x0 x1 x2 x3 i _ hV _ (scratch_read c i arg1 harg1 arg2 harg2 arg3 harg3 arg4 harg4 x0 x1 x2 x3 arg7 _) x,
    trivial⟩

theorem codes_canon (c : Dev nD) (i : grid0.Coords) (arg1 : Memref sig .tc .vmem S512x2560 .fp8e4m3) (harg1 : arg1.IsWhole)
    (arg2 : Memref sig .tc .vmem S128x128 .f32) (harg2 : arg2.IsWhole) (arg3 : Memref sig .tc .vmem S2560x5120 .fp8e4m3) (harg3 : arg3.IsWhole)
    (arg4 : Memref sig .tc .vmem S1x5120 .f32) (harg4 : arg4.IsWhole)
    (x0 : Vec Ideal S512x2560 .fp8e4m3) (x1 : Vec Ideal S128x128 .f32) (x2 : Vec Ideal S2560x5120 .fp8e4m3) (x3 : Vec Ideal S1x5120 .f32)
    (arg5 : Memref sig .tc .vmem S512x5120 .fp8e4m3) (harg5 : arg5.IsWhole)
    (arg6 : Memref sig .tc .vmem S128x128 .f32) (harg6 : arg6.IsWhole) (arg7 : Memref sig .tc .vmem S512x5120 .f32) (harg7 : arg7.IsWhole) :
    View.canon (kernelRun (F := Ideal) c i arg1 harg1 arg2 harg2 arg3 harg3 arg4 harg4 arg5 harg5 arg6 harg6 arg7 harg7 x0 x1 x2 x3).1
      = codesBlk x0 x1 x2 x3 i := by
  funext y
  refine View.canon_apply_of_pieces _ _ (code_pieces c i arg1 harg1 arg2 harg2 arg3 harg3 arg4 harg4 x0 x1 x2 x3 arg5 harg5 arg6 harg6 arg7 harg7).mem y ?_
  exact View.cover_of_tiledL _ ![512, 128] (by rfl) y

/-- The scales of a block of 512 rows, laid out as four rows of 128; elsewhere nothing is meant. -/
def scalesBlk (x0 : Vec Ideal S512x2560 .fp8e4m3) (x1 : Vec Ideal S128x128 .f32) (x2 : Vec Ideal S2560x5120 .fp8e4m3) (x3 : Vec Ideal S1x5120 .f32)
    (i : grid0.Coords) : Vec Ideal S128x128 .f32 := fun y =>
  scaleWord (rowT x0 x1 x2 x3 i ⟨((y 0).val % 4) * 128 + (y 1).val, by have h := (y 1).isLt; have : (y 1).val < 128 := h; omega⟩)

/-- The place of lane `l` of a stored row of scales. -/
theorem emb_row (i : grid0.Coords) (k : Fin 4) (l : Fin 128) (hk : 4 * (i 0).val + k.val < 128) :
    (Rect.unit (s := S128x128) (k0_off1 i (BitVec.ofNat 32 k.val)) S1x128.size (k0_off1_inb i k)).emb (ix2 0 l)
      = ix2 ⟨4 * (i 0).val + k.val, hk⟩ l := by
  have e := k0_off1_eq i k
  funext a
  apply Fin.ext
  match a with
  | 0 => simp [Rect.unit, Rect.emb, ix2, e]
  | 1 => simp [Rect.unit, Rect.emb, ix2, e]

theorem scale_pieces (c : Dev nD) (i : grid0.Coords) (arg1 : Memref sig .tc .vmem S512x2560 .fp8e4m3) (harg1 : arg1.IsWhole)
    (arg2 : Memref sig .tc .vmem S128x128 .f32) (harg2 : arg2.IsWhole) (arg3 : Memref sig .tc .vmem S2560x5120 .fp8e4m3) (harg3 : arg3.IsWhole)
    (arg4 : Memref sig .tc .vmem S1x5120 .f32) (harg4 : arg4.IsWhole)
    (x0 : Vec Ideal S512x2560 .fp8e4m3) (x1 : Vec Ideal S128x128 .f32) (x2 : Vec Ideal S2560x5120 .fp8e4m3) (x3 : Vec Ideal S1x5120 .f32)
    (arg5 : Memref sig .tc .vmem S512x5120 .fp8e4m3) (harg5 : arg5.IsWhole)
    (arg6 : Memref sig .tc .vmem S128x128 .f32) (harg6 : arg6.IsWhole) (arg7 : Memref sig .tc .vmem S512x5120 .f32) (harg7 : arg7.IsWhole) :
    View.PiecesOf (scalesBlk x0 x1 x2 x3 i) (kernelRun (F := Ideal) c i arg1 harg1 arg2 harg2 arg3 harg3 arg4 harg4 arg5 harg5 arg6 harg6 arg7 harg7 x0 x1 x2 x3).2.1 := by
  have hS := scale_apply c i arg1 harg1 arg2 harg2 arg3 harg3 arg4 harg4 x0 x1 x2 x3
  have hi : (i 0).val < 32 := (i 0).isLt
  have key : ∀ (k : Fin 4) (v : FVec Ideal S1x128 .f32)
      (hv : ∀ l : Fin 128, v (ix2 0 l) = scaleWord (rowT x0 x1 x2 x3 i ⟨k.val * 128 + l.val, by omega⟩)) (x : S1x128.Idx),
      v x = scalesBlk x0 x1 x2 x3 i ((Rect.unit (s := S128x128) (k0_off1 i (BitVec.ofNat 32 k.val)) S1x128.size (k0_off1_inb i k)).emb x) := by
    intro k v hv x
    obtain ⟨l, rfl⟩ : ∃ (l : Fin 128), x = ix2 0 l := ⟨x 1, by rw [eq_ix2 x]; congr 1; exact Subsingleton.elim _ _⟩
    rw [emb_row i k l (by omega), hv l]
    unfold scalesBlk
    congr 2
    apply Fin.ext
    show k.val * 128 + l.val = ((4 * (i 0).val + k.val) % 4) * 128 + l.val
    omega
  unfold kernelRun
  dsimp only
  refine ⟨key 3 _ ?_, key 2 _ ?_, key 1 _ ?_, key 0 _ ?_, trivial⟩
  · intro l
    unfold k0_pay136 kernelRun.sl.r_49
    generalize k0_pay131 (F := Ideal) _ _ _ _ = W at hS ⊢
    pointwise
    rw [← hS _ 0]
  · intro l
    unfold k0_pay135 kernelRun.sl.r_50 k0_pay134
    generalize k0_pay131 (F := Ideal) _ _ _ _ = W at hS ⊢
    pointwise
    rw [← hS _ 0]
  · intro l
    unfold k0_pay133
    generalize k0_pay131 (F := Ideal) _ _ _ _ = W at hS ⊢
    pointwise
    rw [← hS _ 0]
  · intro l
    unfold k0_pay132
    generalize k0_pay131 (F := Ideal) _ _ _ _ = W at hS ⊢
    pointwise
    rw [← hS _ 0]

end Cert.KernelIdeal.Gen

end
-- ==== Proof.Spec.lean ====
module

public import proofs.«01_k».proof.Proof.Exponent

@[expose] public section

noncomputable section

namespace Cert.Spec

open Idealize.ShloMosaic Cert.Exponent

variable (X : Fin 16384 → Fin 2560 → EReal) (s : Fin 16384 → EReal) (W : Fin 2560 → Fin 5120 → EReal) (w : Fin 5120 → EReal)

/-- The rectified, rescaled product at row `R` and column `n`. -/
def act (R : Fin 16384) (n : Fin 5120) : EReal := max ((∑ k : Fin 2560, X R k * W k n) * (s R * w n)) 0

/-- The number whose exponent a row's scale is. -/
def rowT (R : Fin 16384) : EReal :=
  ((Finset.univ.sup fun n : Fin 5120 => act X s W w R n) * (Finset.univ.sup fun n : Fin 5120 => act X s W w R n))
    * FloatOps.ofBits (F := Ideal) .f32 0x3B124925#32

/-- The code at row `R` and column `n`. -/
def code (R : Fin 16384) (n : Fin 5120) : EReal :=
  min (FloatOps.ofBits (F := Ideal) .f32 0x43E00000#32 : EReal) (max (FloatOps.ofBits (F := Ideal) .f32 0xC3E00000#32 : EReal)
    ((act X s W w R n * act X s W w R n) * (invWord (rowT X s W w R) : EReal)))

/-- The scale of row `R`. -/
def scale (R : Fin 16384) : EReal := scaleWord (rowT X s W w R)

theorem act_nonneg (R : Fin 16384) (n : Fin 5120) : 0 ≤ act X s W w R n := le_max_right _ _

/-- The greatest magnitude of the squares of nonnegative numbers is the square of the greatest. -/
theorem sup_sq (f : Fin 5120 → EReal) (hf : ∀ n, 0 ≤ f n) :
    (Finset.univ.sup fun n => max (f n * f n) (-(f n * f n))) = Finset.univ.sup f * Finset.univ.sup f := by
  have h0 : ∀ n, 0 ≤ f n * f n := fun n => mul_nonneg (hf n) (hf n)
  have h1 : ∀ n, max (f n * f n) (-(f n * f n)) = f n * f n := fun n => max_eq_left
    ((EReal.neg_le_neg_iff.mpr (h0 n)).trans (by rw [neg_zero]; exact h0 n))
  simp only [h1]
  apply le_antisymm
  · refine Finset.sup_le fun n _ => ?_
    have h2 : f n ≤ Finset.univ.sup f := Finset.le_sup (f := f) (Finset.mem_univ n)
    exact mul_le_mul h2 h2 (hf n) ((hf n).trans h2)
  · obtain ⟨n, hn, e⟩ := Finset.exists_mem_eq_sup Finset.univ ⟨(0 : Fin 5120), Finset.mem_univ _⟩ f
    rw [e]
    exact Finset.le_sup (f := fun n => f n * f n) hn

end Cert.Spec

end
-- ==== Proof.Blocks.lean ====
module

public import proofs.«01_k».proof.Proof.BlockValue
public import proofs.«01_k».proof.Proof.Spec
public import Idealize.ShloMosaic.Lib.Pipeline.ValueKit

@[expose] public section

set_option maxRecDepth 16384

noncomputable section

namespace Cert.KernelIdeal.Gen

open Idealize.ShloMosaic Idealize.ShloMosaic.TcCoe Idealize.ShloMosaic.Tactic
open Idealize.SL

variable (m : (ℓ : Loc nD τ sig) → Buf (Elt Ideal) ℓ)

theorem idx : ∀ t : Fin cfg0.N, win0_0.index t = ![t.val, 0] ∧ win0_1.index t = ![0, 0] ∧ win0_2.index t = ![0, 0] ∧ win0_3.index t = ![0, 0]
    ∧ win0_4.index t = ![t.val, 0] ∧ win0_5.index t = ![0, 0] :=
  (by decide +kernel : ∀ t : Fin grid0.N, _)

theorem iblk0_apply (c : Dev nD) (t : Fin cfg0.N) (r : Fin 512) (k : Fin 2560) (h : 512 * t.val + r.val < 16384) :
    (iblk m c 0 t : Vec Ideal S512x2560 .fp8e4m3) (ix2 r k) = (V m c main_v0 : Vec Ideal S16384x2560 .fp8e4m3) (ix2 ⟨512 * t.val + r.val, h⟩ k) := by
  blk_ext [iblk, idx t]

theorem iblk1_eq (c : Dev nD) (t : Fin cfg0.N) :
    (iblk m c 1 t : Vec Ideal S128x128 .f32) = (V m c main_v1 : Vec Ideal S128x128 .f32) := by
  funext y
  blk_ext [iblk, idx t]

theorem iblk2_eq (c : Dev nD) (t : Fin cfg0.N) :
    (iblk m c 2 t : Vec Ideal S2560x5120 .fp8e4m3) = (V m c main_arg2 : Vec Ideal S2560x5120 .fp8e4m3) := by
  funext y
  blk_ext [iblk, idx t]

theorem iblk3_eq (c : Dev nD) (t : Fin cfg0.N) :
    (iblk m c 3 t : Vec Ideal S1x5120 .f32) = (V m c main_v2 : Vec Ideal S1x5120 .f32) := by
  funext y
  blk_ext [iblk, idx t]

end Cert.KernelIdeal.Gen

end
-- ==== Proof.KernelValue.lean ====
module

public import proofs.«01_k».proof.Proof.Blocks

@[expose] public section

set_option maxRecDepth 16384

noncomputable section

namespace Cert.KernelIdeal.Gen

open Idealize.ShloMosaic Idealize.ShloMosaic.TcCoe Idealize.ShloMosaic.Tactic
open Idealize.SL

variable (m : (ℓ : Loc nD τ sig) → Buf (Elt Ideal) ℓ)

/-- The four operands as the region finds them, by row and column. -/
def opX (c : Dev nD) (R : Fin 16384) (k : Fin 2560) : EReal := (V m c main_v0 : Vec Ideal S16384x2560 .fp8e4m3) (ix2 R k)
def opS (c : Dev nD) (R : Fin 16384) : EReal :=
  (V m c main_v1 : Vec Ideal S128x128 .f32) (ix2 ⟨R.val / 128, by omega⟩ ⟨R.val % 128, by omega⟩)
def opW (c : Dev nD) (k : Fin 2560) (n : Fin 5120) : EReal := (V m c main_arg2 : Vec Ideal S2560x5120 .fp8e4m3) (ix2 k n)
def opC (c : Dev nD) (n : Fin 5120) : EReal := (V m c main_v2 : Vec Ideal S1x5120 .f32) (ix2 0 n)

/-- The activation block of point `t` is the activation of rows `512 t …`. -/
theorem hBlk_eq (c : Dev nD) (t : Fin cfg0.N) (r : Fin 512) (n : Fin 5120) (h : 512 * t.val + r.val < 16384) :
    (hBlk (iblk m c 0 t) (iblk m c 1 t) (iblk m c 2 t) (iblk m c 3 t) (grid0.coords t) (ix2 r n) : EReal)
      = Cert.Spec.act (opX m c) (opS m c) (opW m c) (opC m c) ⟨512 * t.val + r.val, h⟩ n := by
  have h0 := coords0 t
  rw [iblk1_eq, iblk2_eq, iblk3_eq]
  unfold hBlk Cert.Spec.act opS opW opC opX
  have e : ∀ k : Fin 2560, (iblk m c 0 t : Vec Ideal S512x2560 .fp8e4m3) (ix2 r k)
      = (V m c main_v0 : Vec Ideal S16384x2560 .fp8e4m3) (ix2 ⟨512 * t.val + r.val, h⟩ k) := fun k => iblk0_apply m c t r k h
  have e1 : (⟨4 * ((grid0.coords t) 0).val + r.val / 128, by
      have hi : ((grid0.coords t) 0).val < 32 := ((grid0.coords t) 0).isLt
      omega⟩ : Fin 128) = ⟨(512 * t.val + r.val) / 128, by omega⟩ := by
    apply Fin.ext
    show 4 * ((grid0.coords t) 0).val + r.val / 128 = (512 * t.val + r.val) / 128
    rw [h0]
    omega
  have e2 : (⟨r.val % 128, by omega⟩ : Fin 128) = ⟨(512 * t.val + r.val) % 128, by omega⟩ := by
    apply Fin.ext
    show r.val % 128 = (512 * t.val + r.val) % 128
    omega
  refine congrArg (fun a : EReal => max a 0) (congrArg₂ (fun a b : EReal => a * b) (Finset.sum_congr rfl fun k _ => congrArg (fun a : EReal => a * _) (e k))
    (congrArg (fun a : EReal => a * _) ?_))
  exact congrArg (V m c main_v1 : Vec Ideal S128x128 .f32) (congrArg₂ ix2 e1 e2)

/-- The number a row's scale comes from. -/
theorem rowT_eq (c : Dev nD) (t : Fin cfg0.N) (r : Fin 512) (h : 512 * t.val + r.val < 16384) :
    rowT (iblk m c 0 t) (iblk m c 1 t) (iblk m c 2 t) (iblk m c 3 t) (grid0.coords t) r
      = Cert.Spec.rowT (opX m c) (opS m c) (opW m c) (opC m c) ⟨512 * t.val + r.val, h⟩ := by
  unfold rowT Cert.Spec.rowT
  simp only [hBlk_eq m c t r _ h]

/-- The codes as an array. -/
def codesArr (c : Dev nD) : Vec Ideal S16384x5120 .fp8e4m3 := fun y =>
  Cert.Spec.code (opX m c) (opS m c) (opW m c) (opC m c) (y 0) (y 1)

/-- The scales as an array of 128 rows of 128. -/
def scalesArr (c : Dev nD) : Vec Ideal S128x128 .f32 := fun y =>
  Cert.Spec.scale (opX m c) (opS m c) (opW m c) (opC m c)
    ⟨128 * (y 0).val + (y 1).val, by
      have h0 : (y 0).val < 128 := (y 0).isLt
      have h1 : (y 1).val < 128 := (y 1).isLt
      omega⟩

theorem codesAt_apply (c : Dev nD) (t : Fin cfg0.N) (r : Fin 512) (n : Fin 5120) (h : 512 * t.val + r.val < 16384) :
    codesAt m c t (ix2 r n) = codesArr m c (ix2 ⟨512 * t.val + r.val, h⟩ n) := by
  unfold codesAt runAt
  rw [codes_canon]
  unfold codesBlk codesArr Cert.Spec.code
  rw [hBlk_eq m c t r n h]
  show min _ (max _ (_ * (Cert.Exponent.invWord (rowT _ _ _ _ _ r) : EReal))) = _
  rw [rowT_eq m c t r h]
  rfl

/-- A row of scales stored by point `s`. -/
theorem scalesAt_apply (c : Dev nD) (t : Fin cfg0.N) (y : S128x128.Idx) (h : (y 0).val / 4 = t.val) :
    scalesAt m c t y = scalesArr m c y := by
  have h1 : (y 1).val < 128 := (y 1).isLt
  have h0 : (y 0).val < 128 := (y 0).isLt
  have hw : View.canon (runAt m c t).2.1 y = scalesBlk (iblk m c 0 t) (iblk m c 1 t) (iblk m c 2 t) (iblk m c 3 t) (grid0.coords t) y := by
    refine View.canon_apply_of_pieces _ _ (scale_pieces c (grid0.coords t) _ _ _ _ _ _ _ _ _ _ _ _ _ _ _ _ _ _).mem y ?_
    exact scales_cover m c t y h
  unfold scalesAt
  rw [hw]
  unfold scalesBlk scalesArr Cert.Spec.scale
  rw [rowT_eq m c t _ (by show 512 * t.val + ((y 0).val % 4 * 128 + (y 1).val) < 16384; omega)]
  congr 2
  apply Fin.ext
  show 512 * t.val + ((y 0).val % 4 * 128 + (y 1).val) = 128 * (y 0).val + (y 1).val
  omega

/-- What the body may leave in the codes' window is the block of codes. -/
theorem leaves_codes (c : Dev nD) (t : Fin cfg0.N) (X) (h : (rdat m c).Leaves 4 t X) : X = codesAt m c t := by
  obtain ⟨Y, -, hX⟩ := h
  rw [(dats m 0 c).toRRel_after_of_eq_false (fgt := marks) (Rl := Rl m c) (w := 4) rfl] at hX
  exact hX

/-- The codes' array after the run. -/
theorem final_codes (c : Dev nD) {r : PUnit × MemSt nD τ sig (Elt Ideal)} (h : Pipeline.RDat.FramePost (cfgs 0) (rdat m) (V m) r) :
    r.2.mem ((c.tc : Thread nD τ).loc main_v3_0) = codesArr m c := by
  obtain ⟨after, hL, hA⟩ := Pipeline.RDat.FramePost.exists_exact h c
  refine (hA 4).trans ?_
  refine ((rdat m c).withAfter after).arrAt_eq_of_covers 4 (codesArr m c) (by decide +kernel) fun t hf y => ?_
  blk_simp
  have e := leaves_codes m c t _ (hL 4 t (flush0_4 t))
  show after 4 t y = _
  rw [e]
  obtain ⟨r, n, rfl⟩ : ∃ (r : Fin 512) (n : Fin 5120), y = ix2 r n := ⟨y 0, y 1, eq_ix2 y⟩
  have ht : t.val < 32 := lt_of_lt_of_eq t.isLt N_0
  rw [codesAt_apply m c t r n (by omega)]
  blk_ext [idx t]

/-- The scales' array after the run. -/
theorem final_scales (c : Dev nD) {r : PUnit × MemSt nD τ sig (Elt Ideal)} (h : Pipeline.RDat.FramePost (cfgs 0) (rdat m) (V m) r) :
    r.2.mem ((c.tc : Thread nD τ).loc main_v3_1) = scalesArr m c := by
  have hw : (cfg0.win 5).WholeAt ⟨31, by decide +kernel⟩ := by decide +kernel
  obtain ⟨X, hX, hA⟩ := ((h c).1 5).emb_eq_of_wholeAt hw
  have hR := (dats m 0 c).toRRel_leaves (fgt := marks) (Rl := Rl m c) (w := 5) rfl hX
  funext y
  refine (hA y).trans ?_
  have hy : (y 0).val < 128 := (y 0).isLt
  refine (hR ⟨(y 0).val / 4, by have := N_0; show _ < grid0.N; omega⟩ (by show (y 0).val / 4 ≤ 31; omega) y rfl).trans ?_
  exact scalesAt_apply m c _ y rfl

end Cert.KernelIdeal.Gen

end
-- ==== Proof.RefValue.lean ====
module

public import proofs.«01_k».proof.Proof.Spec
public import proofs.«01_k».proof.Proof.Gen.ReferenceIdeal.Frame
public import Idealize.ShloMosaic.Lib.Pipeline.ValueKit

@[expose] public section

set_option maxRecDepth 16384

noncomputable section

namespace Cert.ReferenceIdeal.Gen

open Idealize.ShloMosaic Idealize.ShloMosaic.TcCoe Idealize.ShloMosaic.Tactic
open Idealize.SL
open Cert.Exponent

/-- A list set as a column, at an index. -/
theorem col_at (M : FVec Ideal S16384 .f32) (R : Fin 16384) : shapeCast S16384x1 M shapeCasts_S16384_S16384x1 (ix2 R 0) = M (ix1 R) := by
  pointwise

/-- A column taken from zero, at an index. -/
theorem neg_at (Z : FVec Ideal S16384x1 .f32) (x : S16384x1.Idx) :
    subf (broadcast S16384x1 (Scalar.ofBits (F := Ideal) .f32 0x00000000#32)) Z x = ((0 : ℝ) : EReal) - Z x := by
  rw [← bits_zero]
  rfl

/-- A column spread over the lanes, at an index. -/
theorem bc_at (E : FVec Ideal S16384x1 .f32) (R : Fin 16384) (n : Fin 5120) :
    broadcastTo S16384x5120 E broadcasts_S16384x1_S16384x5120 (ix2 R n) = E (ix2 R 0) := by
  pointwise

/-- The clipped product, at an index. -/
theorem clip_at (Y E : FVec Ideal S16384x5120 .f32) (x : S16384x5120.Idx) :
    (truncf .fp8e4m3 (minimumf (broadcast S16384x5120 (Scalar.ofBits (F := Ideal) .f32 0x43E00000#32))
      (maximumf (broadcast S16384x5120 (Scalar.ofBits (F := Ideal) .f32 0xC3E00000#32)) (mulf Y E))) bitsLt_fp8e4m3_f32 : FVec Ideal S16384x5120 .fp8e4m3) x
      = min (FloatOps.ofBits (F := Ideal) .f32 0x43E00000#32 : EReal) (max (FloatOps.ofBits (F := Ideal) .f32 0xC3E00000#32 : EReal)
      ((Y x : EReal) * E x)) := rfl

/-- The clipped product of a square and its row's power of two. -/
theorem pay1_at (Y : FVec Ideal S16384x5120 .f32) (Z : FVec Ideal S16384x1 .f32) (R : Fin 16384) (n : Fin 5120) :
    k0_pay1 Y Z (ix2 R n) = min (FloatOps.ofBits (F := Ideal) .f32 0x43E00000#32 : EReal) (max (FloatOps.ofBits (F := Ideal) .f32 0xC3E00000#32 : EReal)
      ((Y (ix2 R n) : EReal) * Ideal.exp2 (Z (ix2 R 0)))) := by
  have h : (exp2 Z : FVec Ideal S16384x1 .f32) (ix2 R 0) = Ideal.exp2 (Z (ix2 R 0)) := rfl
  have h5 := bc_at (exp2 Z) R n
  unfold k0_pay1
  rw [← h, ← h5]
  exact clip_at _ _ _

/-- The exponent of a column of magnitudes, at an index. -/
theorem refExp_at (A : FVec Ideal S16384x1 .f32) (x : S16384x1.Idx) (a : EReal) (ha : A x = a) :
  select
      (cmpf CmpFPredicate.oeq A (broadcast S16384x1 (Scalar.ofBits (F := Ideal) FTy.f32 0#32)))
      (broadcast S16384x1 (Scalar.ofBits (F := Ideal) FTy.f32 0#32))
      (select
        (ori
          (cmpf CmpFPredicate.olt
            (mulf A (broadcast S16384x1 (Scalar.ofBits (F := Ideal) FTy.f32 991054117#32)))
            (broadcast S16384x1 (Scalar.ofBits (F := Ideal) FTy.f32 8388608#32)))
          (cmpf CmpFPredicate.oge
            (mulf A (broadcast S16384x1 (Scalar.ofBits (F := Ideal) FTy.f32 991054117#32)))
            (broadcast S16384x1 (Scalar.ofBits (F := Ideal) FTy.f32 2122317824#32))))
        (broadcast S16384x1 (Scalar.ofBits (F := Ideal) FTy.f32 0#32))
        (addf
          (floor
            (divf
              (log
                (mulf A (broadcast S16384x1 (Scalar.ofBits (F := Ideal) FTy.f32 991054117#32))))
              (log (broadcast S16384x1 (Scalar.ofBits (F := Ideal) FTy.f32 1073741824#32)))))
          (broadcast S16384x1 (Scalar.ofBits (F := Ideal) FTy.f32 1065353216#32)))) x
   = Scalar.select (FloatOps.cmpf (F := Ideal) (φ := .f32) .oeq a (FloatOps.ofBits .f32 0#32)) (FloatOps.ofBits (F := Ideal) .f32 0#32)
      (refExp (a * FloatOps.ofBits (F := Ideal) .f32 991054117#32)) := by
  subst ha
  rfl

/-- At zero the exponent is zero. -/
theorem refExp_guard (a : EReal) : Scalar.select (FloatOps.cmpf (F := Ideal) (φ := .f32) .oeq a (FloatOps.ofBits .f32 0#32)) (FloatOps.ofBits (F := Ideal) .f32 0#32)
      (refExp (a * FloatOps.ofBits (F := Ideal) .f32 991054117#32)) = refExp (a * FloatOps.ofBits (F := Ideal) .f32 991054117#32) := by
  by_cases h : a = 0
  · subst h
    rw [zero_mul]
    unfold refExp
    rw [bits_zero, bits_min]
    have e : FloatOps.cmpf (F := Ideal) (φ := .f32) .olt (0 : EReal) (((2 : ℝ) ^ (-126 : ℤ) : ℝ) : EReal) = 1#1 := by
      show BitVec.ofBool (decide ((0 : EReal) < _)) = _
      rw [decide_eq_true]
      · rfl
      · exact EReal.coe_pos.mpr (by positivity)
    rw [e]
    have e2 : ∀ b : BitVec 1, IntOp.ori 1#1 b = 1#1 := by decide
    rw [e2]
    unfold Scalar.select
    simp
  · have e : FloatOps.cmpf (F := Ideal) (φ := .f32) .oeq a (FloatOps.ofBits .f32 0#32) = 0#1 := by
      rw [bits_zero]
      show BitVec.ofBool (decide (a = _)) = _
      rw [decide_eq_false]
      · rfl
      · exact h
    rw [e]
    rfl

section Payloads

variable (x0 : Vec Ideal S16384x2560 .fp8e4m3) (x1 : Vec Ideal S16384x1 .f32) (x2 : Vec Ideal S2560x5120 .fp8e4m3) (x3 : Vec Ideal S1x5120 .f32)

/-- The activation that the reference's blocks name. -/
def actR (R : Fin 16384) (n : Fin 5120) : EReal :=
  Cert.Spec.act (fun R k => x0 (ix2 R k)) (fun R => x1 (ix2 R 0)) (fun k n => x2 (ix2 k n)) (fun n => x3 (ix2 0 n)) R n

/-- The number a row's scale comes from. -/
def rowTR (R : Fin 16384) : EReal :=
  Cert.Spec.rowT (fun R k => x0 (ix2 R k)) (fun R => x1 (ix2 R 0)) (fun k n => x2 (ix2 k n)) (fun n => x3 (ix2 0 n)) R

/-- The squared activation. -/
theorem pay3_apply (R : Fin 16384) (n : Fin 5120) : k0_pay3 x0 x2 x1 x3 (ix2 R n) = actR x0 x1 x2 x3 R n * actR x0 x1 x2 x3 R n := by
  unfold actR Cert.Spec.act
  pointwise [k0_pay3]

/-- A row's greatest magnitude. -/
theorem amax_apply (R : Fin 16384) (h1) (h2) (h3) :
    multiReduction .maximumf [1] S16384 (absf (k0_pay3 x0 x2 x1 x3)) 0xFF800000#32 h1 h2 h3 (ix1 R)
      = (Finset.univ.sup fun n => actR x0 x1 x2 x3 R n) * (Finset.univ.sup fun n => actR x0 x1 x2 x3 R n) := by
  have e : Ideal.ofBits .f32 0xFF800000#32 = ⊥ := by simp [Ideal.ofBits, Ideal.ieee]
  have h := pay3_apply x0 x1 x2 x3 R
  generalize k0_pay3 x0 x2 x1 x3 = Y at h ⊢
  have hY : ∀ n : Fin 5120, absf Y (ix2 R n) = (max (Y (ix2 R n) : EReal) (-(Y (ix2 R n) : EReal)) : EReal) := fun _ => rfl
  generalize absf Y = Z at hY ⊢
  rw [← Cert.Spec.sup_sq (actR x0 x1 x2 x3 R) fun n => Cert.Spec.act_nonneg _ _ _ _ _ _]
  pointwise
  rw [e]
  simp only [hY, h]
  rfl

/-- The exponent of a row. -/
theorem pay4_apply (R : Fin 16384) : k0_pay4 x0 x2 x1 x3 (ix2 R 0) = refExp (rowTR x0 x1 x2 x3 R) := by
  refine (refExp_at _ _ _ ?_).trans (refExp_guard _)
  exact (col_at _ R).trans (amax_apply x0 x1 x2 x3 R reduces_S16384x5120_S16384 (.inl rfl) rfl)

/-- A power of two per row. -/
theorem pay2_at (Z : FVec Ideal S16384x1 .f32) (R : Fin 16384) : k0_pay2 Z (ix2 R 0) = Ideal.exp2 (Z (ix2 R 0)) := rfl

/-- A scale. -/
theorem pay2_apply (R : Fin 16384) : k0_pay2 (k0_pay4 x0 x2 x1 x3) (ix2 R 0) = scaleWord (rowTR x0 x1 x2 x3 R) := by
  rw [scaleWord_eq, ← pay4_apply, pay2_at]

/-- The negated exponent of a row. -/
theorem pay5_apply (R : Fin 16384) : k0_pay5 x0 x2 x1 x3 (ix2 R 0) = ((0 : ℝ) : EReal) - refExp (rowTR x0 x1 x2 x3 R) := by
  unfold k0_pay5
  rw [neg_at, pay4_apply]

/-- A code. -/
theorem pay1_apply (R : Fin 16384) (n : Fin 5120) : k0_pay1 (k0_pay3 x0 x2 x1 x3) (k0_pay5 x0 x2 x1 x3) (ix2 R n)
    = Cert.Spec.code (fun R k => x0 (ix2 R k)) (fun R => x1 (ix2 R 0)) (fun k n => x2 (ix2 k n)) (fun n => x3 (ix2 0 n)) R n := by
  rw [pay1_at, pay5_apply, pay3_apply, ← invWord_eq]
  unfold actR rowTR Cert.Spec.code
  rfl

end Payloads

end Cert.ReferenceIdeal.Gen

end
-- ==== Proof.RefArrays.lean ====
module

public import proofs.«01_k».proof.Proof.RefValue

@[expose] public section

set_option maxRecDepth 16384

noncomputable section

namespace Cert.ReferenceIdeal.Gen

open Idealize.ShloMosaic Idealize.ShloMosaic.TcCoe Idealize.ShloMosaic.Tactic
open Idealize.SL

variable (m : (ℓ : Loc nD τ sig) → Buf (Elt Ideal) ℓ)

theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] :=
  (by decide +kernel : ∀ t : Fin grid0.N, _)

theorem iblk0_eq (c : Dev nD) (t : Fin cfg0.N) :
    (iblk m c 0 t : Vec Ideal S16384x2560 .fp8e4m3) = (V m c main_v0 : Vec Ideal S16384x2560 .fp8e4m3) := by
  funext y
  blk_ext [iblk, idx t]

theorem iblk1_eq (c : Dev nD) (t : Fin cfg0.N) :
    (iblk m c 1 t : Vec Ideal S16384x1 .f32) = (V m c main_v1 : Vec Ideal S16384x1 .f32) := by
  funext y
  blk_ext [iblk, idx t]

theorem iblk2_eq (c : Dev nD) (t : Fin cfg0.N) :
    (iblk m c 2 t : Vec Ideal S2560x5120 .fp8e4m3) = (V m c main_arg2 : Vec Ideal S2560x5120 .fp8e4m3) := by
  funext y
  blk_ext [iblk, idx t]

theorem iblk3_eq (c : Dev nD) (t : Fin cfg0.N) :
    (iblk m c 3 t : Vec Ideal S1x5120 .f32) = (V m c main_v2 : Vec Ideal S1x5120 .f32) := by
  funext y
  blk_ext [iblk, idx t]

/-- The four operands as the region finds them, by row and column. -/
def opX (c : Dev nD) (R : Fin 16384) (k : Fin 2560) : EReal := (V m c main_v0 : Vec Ideal S16384x2560 .fp8e4m3) (ix2 R k)
def opS (c : Dev nD) (R : Fin 16384) : EReal := (V m c main_v1 : Vec Ideal S16384x1 .f32) (ix2 R 0)
def opW (c : Dev nD) (k : Fin 2560) (n : Fin 5120) : EReal := (V m c main_arg2 : Vec Ideal S2560x5120 .fp8e4m3) (ix2 k n)
def opC (c : Dev nD) (n : Fin 5120) : EReal := (V m c main_v2 : Vec Ideal S1x5120 .f32) (ix2 0 n)

/-- The codes as an array. -/
def codesArr (c : Dev nD) : Vec Ideal S16384x5120 .fp8e4m3 := fun y =>
  Cert.Spec.code (opX m c) (opS m c) (opW m c) (opC m c) (y 0) (y 1)

/-- The scales as a column. -/
def scalesCol (c : Dev nD) : Vec Ideal S16384x1 .f32 := fun y =>
  Cert.Spec.scale (opX m c) (opS m c) (opW m c) (opC m c) (y 0)

/-- The codes' array after the region. -/
theorem arr_codes (c : Dev nD) : (dats m 0 c).arrAt 4 (cfgs 0).N = codesArr m c := by
  refine (dats m 0 c).arrAt_eq_of_covers 4 (codesArr m c) (by decide +kernel) fun t _ y => ?_
  blk_simp
  rw [after0_4]
  frame_out
  rw [iblk0_eq, iblk1_eq, iblk2_eq, iblk3_eq]
  obtain ⟨R, n, rfl⟩ : ∃ (R : Fin 16384) (n : Fin 5120), y = ix2 R n := ⟨y 0, y 1, eq_ix2 y⟩
  refine (pay1_apply _ _ _ _ R n).trans ?_
  show codesArr m c (ix2 R n) = _
  blk_ext [idx t]

/-- The scales' array after the region. -/
theorem arr_scales (c : Dev nD) : (dats m 0 c).arrAt 5 (cfgs 0).N = scalesCol m c := by
  refine (dats m 0 c).arrAt_eq_of_covers 5 (scalesCol m c) (by decide +kernel) fun t _ y => ?_
  blk_simp
  rw [after0_5]
  frame_out
  rw [iblk0_eq, iblk1_eq, iblk2_eq, iblk3_eq]
  obtain ⟨R, z, rfl⟩ : ∃ (R : Fin 16384) (z : Fin 1), y = ix2 R z := ⟨y 0, y 1, eq_ix2 y⟩
  obtain rfl : z = 0 := Subsingleton.elim _ _
  refine (pay2_apply _ _ _ _ R).trans ?_
  show scalesCol m c (ix2 R 0) = _
  blk_ext [idx t]

/-- The scales as 128 rows of 128. -/
def scalesArr (c : Dev nD) : Vec Ideal S128x128 .f32 := fun y =>
  Cert.Spec.scale (opX m c) (opS m c) (opW m c) (opC m c)
    ⟨128 * (y 0).val + (y 1).val, by
      have h0 : (y 0).val < 128 := (y 0).isLt
      have h1 : (y 1).val < 128 := (y 1).isLt
      omega⟩

/-- A column of 16384 entries set as 128 rows of 128, at an index. -/
theorem square_at (Z : Vec Ideal S16384x1 .f32) (p l : Fin 128) (h : 128 * p.val + l.val < 16384) :
    shapeCast S128x128 Z shapeCasts_S16384x1_S128x128 (ix2 p l) = Z (ix2 ⟨128 * p.val + l.val, h⟩ 0) := by
  refine shapeCast_apply Z _ _ _ ?_
  simp [Shape.rowMajor_val_two]
  omega

/-- What the line after the region leaves: the column of scales as 128 rows of 128. -/
theorem tail_scales (c : Dev nD) : Pipeline.afterTail₀ cfgs (dats m) 0 (V0 m) [hostOps1] c main_v4 = scalesArr m c := by
  have e : Pipeline.afterTail₀ cfgs (dats m) 0 (V0 m) [hostOps1] c main_v4
      = shapeCast S128x128 (scalesCol m c) shapeCasts_S16384x1_S128x128 := by
    unfold Pipeline.afterTail₀
    rw [← arr_scales, ← Pipeline.withArrays_arr spec0 (by decide) c (V0 m c) (fun w => (dats m 0 c).arrAt w (cfgs 0).N) 5]
    generalize (Pipeline.withArrays spec0 c (V0 m c) fun w => (dats m 0 c).arrAt w (cfgs 0).N) = Z
    show StableHlo.after hostOps1 Z (Proc.devRef .tc main_v4) = _
    unfold hostOps1
    after_results
    rfl
  rw [e]
  funext y
  obtain ⟨p, l, rfl⟩ : ∃ (p l : Fin 128), y = ix2 p l := ⟨y 0, y 1, eq_ix2 y⟩
  exact square_at (scalesCol m c) p l (by omega)

/-- The run of the reference: the codes, the scales, and the arguments as they were. -/
theorem run_values (ρ : Dev nD → PrngReg) : θ_run defs (onTc (τ := τ) (main (F := Ideal))) ⟨m, fun _ => 0, ρ⟩ (fun r => ∀ c : Dev nD,
      r.2.mem ((c.tc : Thread nD τ).loc main_v3_0) = codesArr m c
      ∧ r.2.mem ((c.tc : Thread nD τ).loc main_v4) = scalesArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 4).trans (arr_codes m c),
      ((h c).2 main_v4 (Pipeline.mem_restRefs_of main_v4 (by decide) (by decide))).trans (tail_scales m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c)⟩) (run_main m ρ)

end Cert.ReferenceIdeal.Gen

end
-- ==== Proof.Equal.lean ====
module

public import proofs.«01_k».proof.Proof.RefArrays
public import proofs.«01_k».proof.Proof.KernelValue

@[expose] public section

set_option maxRecDepth 16384

noncomputable section

namespace Cert.Equal

open Idealize.ShloMosaic Idealize.ShloMosaic.TcCoe Idealize.ShloMosaic.Tactic
open Idealize.SL

/-- A 4×4096 array set as 128 rows of 128 and as a column: entry `R` is the same. -/
theorem square_column (a : (⟨2, ![4, 4096]⟩ : Shape).Idx → EReal) (h : (⟨2, ![4, 4096]⟩ : Shape).ShapeCasts ⟨2, ![128, 128]⟩)
    (h' : (⟨2, ![4, 4096]⟩ : Shape).ShapeCasts ⟨2, ![16384, 1]⟩) (R : Fin 16384) :
    shapeCast ⟨2, ![128, 128]⟩ a h (ix2 ⟨R.val / 128, by omega⟩ ⟨R.val % 128, by omega⟩) = shapeCast ⟨2, ![16384, 1]⟩ a h' (ix2 R 0) := by
  have hR := R.isLt
  rw [shapeCast_apply a h (ix2 ⟨R.val / 128, by omega⟩ ⟨R.val % 128, by omega⟩) (ix2 ⟨R.val / 4096, by omega⟩ ⟨R.val % 4096, by omega⟩)
      (by simp [Shape.rowMajor_val_two]; omega),
    shapeCast_apply a h' (ix2 R 0) (ix2 ⟨R.val / 4096, by omega⟩ ⟨R.val % 4096, by omega⟩)
      (by simp [Shape.rowMajor_val_two]; omega)]

/-- The kernel's activations, read off the argument. -/
theorem opX_kernel (M : (ℓ : Loc Cert.KernelIdeal.nD Cert.KernelIdeal.τ Cert.KernelIdeal.sig) → Buf (Elt Ideal) ℓ) (c : Dev Cert.KernelIdeal.nD) (a : Vec Ideal Cert.KernelIdeal.S4x4096x2560 .fp8e4m3) (R : Fin 16384) (k : Fin 2560)
    (h : M ((c.tc : Thread Cert.KernelIdeal.nD Cert.KernelIdeal.τ).loc Cert.KernelIdeal.main_arg0) = a) :
    Cert.KernelIdeal.Gen.opX M c R k = shapeCast Cert.KernelIdeal.S16384x2560 a Cert.KernelIdeal.Gen.shapeCasts_S4x4096x2560_S16384x2560 (ix2 R k) := by
  unfold Cert.KernelIdeal.Gen.opX
  entry_read
  subst h
  rfl

/-- The kernel's row scales, read off the argument. -/
theorem opS_kernel (M : (ℓ : Loc Cert.KernelIdeal.nD Cert.KernelIdeal.τ Cert.KernelIdeal.sig) → Buf (Elt Ideal) ℓ) (c : Dev Cert.KernelIdeal.nD) (a : Vec Ideal Cert.KernelIdeal.S4x4096 .f32) (R : Fin 16384)
    (h : M ((c.tc : Thread Cert.KernelIdeal.nD Cert.KernelIdeal.τ).loc Cert.KernelIdeal.main_arg1) = a) :
    Cert.KernelIdeal.Gen.opS M c R = shapeCast Cert.KernelIdeal.S128x128 a Cert.KernelIdeal.Gen.shapeCasts_S4x4096_S128x128 (ix2 ⟨R.val / 128, by omega⟩ ⟨R.val % 128, by omega⟩) := by
  unfold Cert.KernelIdeal.Gen.opS
  entry_read
  subst h
  rfl

/-- The kernel's weights, read off the argument. -/
theorem opW_kernel (M : (ℓ : Loc Cert.KernelIdeal.nD Cert.KernelIdeal.τ Cert.KernelIdeal.sig) → Buf (Elt Ideal) ℓ) (c : Dev Cert.KernelIdeal.nD) (a : Vec Ideal Cert.KernelIdeal.S2560x5120 .fp8e4m3) (k : Fin 2560) (n : Fin 5120)
    (h : M ((c.tc : Thread Cert.KernelIdeal.nD Cert.KernelIdeal.τ).loc Cert.KernelIdeal.main_arg2) = a) :
    Cert.KernelIdeal.Gen.opW M c k n = a (ix2 k n) := by
  unfold Cert.KernelIdeal.Gen.opW
  entry_read
  subst h
  rfl

/-- The kernel's column scales, read off the argument. -/
theorem opC_kernel (M : (ℓ : Loc Cert.KernelIdeal.nD Cert.KernelIdeal.τ Cert.KernelIdeal.sig) → Buf (Elt Ideal) ℓ) (c : Dev Cert.KernelIdeal.nD) (a : Vec Ideal Cert.KernelIdeal.S5120 .f32) (n : Fin 5120)
    (h : M ((c.tc : Thread Cert.KernelIdeal.nD Cert.KernelIdeal.τ).loc Cert.KernelIdeal.main_arg3) = a) :
    Cert.KernelIdeal.Gen.opC M c n = shapeCast Cert.KernelIdeal.S1x5120 a Cert.KernelIdeal.Gen.shapeCasts_S5120_S1x5120 (ix2 0 n) := by
  unfold Cert.KernelIdeal.Gen.opC
  entry_read
  subst h
  rfl

/-- The reference's activations, read off the argument. -/
theorem opX_reference (M : (ℓ : Loc Cert.ReferenceIdeal.nD Cert.ReferenceIdeal.τ Cert.ReferenceIdeal.sig) → Buf (Elt Ideal) ℓ) (c : Dev Cert.ReferenceIdeal.nD) (a : Vec Ideal Cert.ReferenceIdeal.S4x4096x2560 .fp8e4m3) (R : Fin 16384) (k : Fin 2560)
    (h : M ((c.tc : Thread Cert.ReferenceIdeal.nD Cert.ReferenceIdeal.τ).loc Cert.ReferenceIdeal.main_arg0) = a) :
    Cert.ReferenceIdeal.Gen.opX M c R k = shapeCast Cert.ReferenceIdeal.S16384x2560 a Cert.ReferenceIdeal.Gen.shapeCasts_S4x4096x2560_S16384x2560 (ix2 R k) := by
  unfold Cert.ReferenceIdeal.Gen.opX
  entry_read
  subst h
  rfl

/-- The reference's row scales, read off the argument. -/
theorem opS_reference (M : (ℓ : Loc Cert.ReferenceIdeal.nD Cert.ReferenceIdeal.τ Cert.ReferenceIdeal.sig) → Buf (Elt Ideal) ℓ) (c : Dev Cert.ReferenceIdeal.nD) (a : Vec Ideal Cert.ReferenceIdeal.S4x4096 .f32) (R : Fin 16384)
    (h : M ((c.tc : Thread Cert.ReferenceIdeal.nD Cert.ReferenceIdeal.τ).loc Cert.ReferenceIdeal.main_arg1) = a) :
    Cert.ReferenceIdeal.Gen.opS M c R = shapeCast Cert.ReferenceIdeal.S16384x1 a Cert.ReferenceIdeal.Gen.shapeCasts_S4x4096_S16384x1 (ix2 R 0) := by
  unfold Cert.ReferenceIdeal.Gen.opS
  entry_read
  subst h
  rfl

/-- The reference's weights, read off the argument. -/
theorem opW_reference (M : (ℓ : Loc Cert.ReferenceIdeal.nD Cert.ReferenceIdeal.τ Cert.ReferenceIdeal.sig) → Buf (Elt Ideal) ℓ) (c : Dev Cert.ReferenceIdeal.nD) (a : Vec Ideal Cert.ReferenceIdeal.S2560x5120 .fp8e4m3) (k : Fin 2560) (n : Fin 5120)
    (h : M ((c.tc : Thread Cert.ReferenceIdeal.nD Cert.ReferenceIdeal.τ).loc Cert.ReferenceIdeal.main_arg2) = a) :
    Cert.ReferenceIdeal.Gen.opW M c k n = a (ix2 k n) := by
  unfold Cert.ReferenceIdeal.Gen.opW
  entry_read
  subst h
  rfl

/-- The reference's column scales, read off the argument. -/
theorem opC_reference (M : (ℓ : Loc Cert.ReferenceIdeal.nD Cert.ReferenceIdeal.τ Cert.ReferenceIdeal.sig) → Buf (Elt Ideal) ℓ) (c : Dev Cert.ReferenceIdeal.nD) (a : Vec Ideal Cert.ReferenceIdeal.S5120 .f32) (n : Fin 5120)
    (h : M ((c.tc : Thread Cert.ReferenceIdeal.nD Cert.ReferenceIdeal.τ).loc Cert.ReferenceIdeal.main_arg3) = a) :
    Cert.ReferenceIdeal.Gen.opC M c n = shapeCast Cert.ReferenceIdeal.S1x5120 a Cert.ReferenceIdeal.Gen.shapeCasts_S5120_S1x5120 (ix2 0 n) := by
  unfold Cert.ReferenceIdeal.Gen.opC
  entry_read
  subst h
  rfl

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

/-- The activations' rows are the same on the two sides. -/
theorem opX_eq (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) :
    Cert.ReferenceIdeal.Gen.opX m' c = Cert.KernelIdeal.Gen.opX m c := by
  funext R k
  exact (opX_reference m' c _ R k h).trans (opX_kernel m c _ R k rfl).symm

/-- The rows' scales are the same on the two sides. -/
theorem opS_eq (c : Dev Cert.KernelIdeal.nD)
    (h : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    Cert.ReferenceIdeal.Gen.opS m' c = Cert.KernelIdeal.Gen.opS m c := by
  funext R
  exact (opS_reference m' c _ R h).trans ((square_column _ _ _ R).symm.trans (opS_kernel m c _ R rfl).symm)

/-- The weights are the same on the two sides. -/
theorem opW_eq (c : Dev Cert.KernelIdeal.nD)
    (h : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    Cert.ReferenceIdeal.Gen.opW m' c = Cert.KernelIdeal.Gen.opW m c := by
  funext k n
  exact (opW_reference m' c _ k n h).trans (opW_kernel m c _ k n rfl).symm

/-- The columns' scales are the same on the two sides. -/
theorem opC_eq (c : Dev Cert.KernelIdeal.nD)
    (h : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    Cert.ReferenceIdeal.Gen.opC m' c = Cert.KernelIdeal.Gen.opC m c := by
  funext n
  exact (opC_reference m' c _ n h).trans (opC_kernel m c _ n rfl).symm

/-- From the same arguments the two sides leave the same codes. -/
theorem codes_eq (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    Cert.ReferenceIdeal.Gen.codesArr m' c = Cert.KernelIdeal.Gen.codesArr m c := by
  unfold Cert.ReferenceIdeal.Gen.codesArr Cert.KernelIdeal.Gen.codesArr
  rw [opX_eq m m' c h.1, opS_eq m m' c h.2.1, opW_eq m m' c h.2.2.1, opC_eq m m' c h.2.2.2]

/-- From the same arguments the two sides leave the same scales. -/
theorem scales_eq (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    Cert.ReferenceIdeal.Gen.scalesArr m' c = Cert.KernelIdeal.Gen.scalesArr m c := by
  unfold Cert.ReferenceIdeal.Gen.scalesArr Cert.KernelIdeal.Gen.scalesArr
  rw [opX_eq m m' c h.1, opS_eq m m' c h.2.1, opW_eq m m' c h.2.2.1, opC_eq m m' c h.2.2.2]

end Cert.Equal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.BitsRun
public import proofs.«01_k».proof.Proof.KernelValue
public import proofs.«01_k».proof.Proof.RefArrays
public import proofs.«01_k».proof.Proof.Equal
public import Idealize.ShloMosaic.Adequacy
public import Idealize.ShloMosaic.Init

@[expose] public section

noncomputable section

namespace Cert.Proof

open Idealize.ShloMosaic Idealize.SL.Sem Cert.Kernel

/-- From the same arguments the idealized kernel and the reference leave the same codes and the same scales, and both leave
    their arguments as they were. -/
theorem algebraic : Cert.algebraic_KernelIdeal_ReferenceIdeal (hKernelIdeal := Cert.KernelIdeal.Gen.facts) (hReferenceIdeal := Cert.ReferenceIdeal.Gen.facts) := by
  intro m g m' g' _ hargs
  refine ⟨Cert.KernelIdeal.Gen.codesArr m, Cert.KernelIdeal.Gen.scalesArr m, ?_, ?_⟩
  · exact (θ_run _ _ _).mono (fun r h c => ⟨Cert.KernelIdeal.Gen.final_codes m c h, Cert.KernelIdeal.Gen.final_scales m c h,
      Cert.KernelIdeal.Gen.args_of_post m r h c⟩) (Cert.KernelIdeal.Gen.run_main m g)
  · exact (θ_run _ _ _).mono (fun r h c => ⟨(h c).1.trans (Cert.Equal.codes_eq m m' c (hargs c)),
      (h c).2.1.trans (Cert.Equal.scales_eq m m' c (hargs c)), (h c).2.2⟩) (Cert.ReferenceIdeal.Gen.run_values m' g')

/-- The programs end with their arguments as they were and every semaphore at zero; the idealized kernel is the kernel;
    and it computes what the reference computes. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ,
    fun m ρ _ => Cert.ReferenceIdeal.Gen.frame m ρ, trivial, algebraic⟩

end Cert.Proof

end
